-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16384x1024 : Shape := ⟨2, ![16384, 1024]⟩
abbrev S2x256x1024 : Shape := ⟨3, ![2, 256, 1024]⟩
abbrev S16x256x1024 : Shape := ⟨3, ![16, 256, 1024]⟩
abbrev S2 : Shape := ⟨1, ![2]⟩
abbrev S16 : Shape := ⟨1, ![16]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S2048x1024 : Shape := ⟨2, ![2048, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .bf16⟩
  | .local _ .vmem, ⟨0, _⟩ => ⟨S2x256x1024, .f32⟩
  | .local _ .vmem, ⟨1, _⟩ => ⟨S16x256x1024, .bf16⟩
  | .local _ .vmem, ⟨2, _⟩ => ⟨S16x256x1024, .bf16⟩
  | .local _ .vmem, ⟨3, _⟩ => ⟨S16x256x1024, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  (ofTc nBuf bufTy 1 118 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v35 : BitVec 32 := Scalar.muli v2 c4_i32_22
  let v36 : BitVec 32 := Scalar.addi c0_i32 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v37 : BitVec 32 := Scalar.muli v5 c2_i32_23
  let v38 : BitVec 32 := Scalar.addi v36 v37
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v39 : BitVec 32 := Scalar.muli v9 c1_i32_24
  let v40 : BitVec 32 := Scalar.addi v38 v39
  v40.toNat
def k0_dev2 (d0 : Dev nD) : Nat :=
  let c0_i32_27 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_26 : BitVec 32 := 4#32
  let v41 : BitVec 32 := Scalar.muli v10 c4_i32_26
  let v42 : BitVec 32 := Scalar.addi c0_i32_27 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v43 : BitVec 32 := Scalar.muli v5 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_dev3 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v47 : BitVec 32 := Scalar.muli v2 c4_i32_31
  let v48 : BitVec 32 := Scalar.addi c0_i32_32 v47
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_33 : BitVec 32 := 2#32
  let v49 : BitVec 32 := Scalar.muli v11 c2_i32_33
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v51 : BitVec 32 := Scalar.muli v8 c1_i32_34
  let v52 : BitVec 32 := Scalar.addi v50 v51
  v52.toNat
def k0_off1 (d0 : Dev nD) (c0_i32_35 : BitVec 32) : Fin 3 → Nat :=
  let c0_i32_36 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c4096_i32 : BitVec 32 := 4096#32
  let v24 : BitVec 32 := Scalar.muli v13 c4096_i32
  let v53 : BitVec 32 := Scalar.addi v24 c0_i32_35
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v31 : BitVec 32 := Scalar.subi c1_i32_19 v8
  let c1024_i32 : BitVec 32 := 1024#32
  let v32 : BitVec 32 := Scalar.muli v31 c1024_i32
  ![0, v53.toNat, v32.toNat]
def k0_dev4 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v80 : BitVec 32 := Scalar.muli v2 c4_i32_61
  let v81 : BitVec 32 := Scalar.addi c0_i32_62 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v82 : BitVec 32 := Scalar.muli v5 c2_i32_63
  let v83 : BitVec 32 := Scalar.addi v81 v82
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_64 : BitVec 32 := 1#32
  let v84 : BitVec 32 := Scalar.muli v9 c1_i32_64
  let v85 : BitVec 32 := Scalar.addi v83 v84
  v85.toNat
def k0_dev5 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v114 : BitVec 32 := Scalar.muli v2 c4_i32_89
  let v115 : BitVec 32 := Scalar.addi c0_i32_90 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v116 : BitVec 32 := Scalar.muli v5 c2_i32_91
  let v117 : BitVec 32 := Scalar.addi v115 v116
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v118 : BitVec 32 := Scalar.muli v9 c1_i32_92
  let v119 : BitVec 32 := Scalar.addi v117 v118
  v119.toNat
def k0_dev6 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v148 : BitVec 32 := Scalar.muli v2 c4_i32_117
  let v149 : BitVec 32 := Scalar.addi c0_i32_118 v148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v150 : BitVec 32 := Scalar.muli v5 c2_i32_119
  let v151 : BitVec 32 := Scalar.addi v149 v150
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_120 : BitVec 32 := 1#32
  let v152 : BitVec 32 := Scalar.muli v9 c1_i32_120
  let v153 : BitVec 32 := Scalar.addi v151 v152
  v153.toNat
def k0_dev7 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v182 : BitVec 32 := Scalar.muli v2 c4_i32_146
  let v183 : BitVec 32 := Scalar.addi c0_i32_147 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v184 : BitVec 32 := Scalar.muli v5 c2_i32_148
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_149 : BitVec 32 := 1#32
  let v186 : BitVec 32 := Scalar.muli v9 c1_i32_149
  let v187 : BitVec 32 := Scalar.addi v185 v186
  v187.toNat
def k0_dev8 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v216 : BitVec 32 := Scalar.muli v2 c4_i32_174
  let v217 : BitVec 32 := Scalar.addi c0_i32_175 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_176 : BitVec 32 := 2#32
  let v218 : BitVec 32 := Scalar.muli v5 c2_i32_176
  let v219 : BitVec 32 := Scalar.addi v217 v218
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_177 : BitVec 32 := 1#32
  let v220 : BitVec 32 := Scalar.muli v9 c1_i32_177
  let v221 : BitVec 32 := Scalar.addi v219 v220
  v221.toNat
def k0_dev9 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v250 : BitVec 32 := Scalar.muli v2 c4_i32_201
  let v251 : BitVec 32 := Scalar.addi c0_i32_202 v250
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v252 : BitVec 32 := Scalar.muli v5 c2_i32_203
  let v253 : BitVec 32 := Scalar.addi v251 v252
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_204 : BitVec 32 := 1#32
  let v254 : BitVec 32 := Scalar.muli v9 c1_i32_204
  let v255 : BitVec 32 := Scalar.addi v253 v254
  v255.toNat
def k0_dev10 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v284 : BitVec 32 := Scalar.muli v2 c4_i32_228
  let v285 : BitVec 32 := Scalar.addi c0_i32_229 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v286 : BitVec 32 := Scalar.muli v5 c2_i32_230
  let v287 : BitVec 32 := Scalar.addi v285 v286
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_231 : BitVec 32 := 1#32
  let v288 : BitVec 32 := Scalar.muli v9 c1_i32_231
  let v289 : BitVec 32 := Scalar.addi v287 v288
  v289.toNat
def k0_dev11 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v318 : BitVec 32 := Scalar.muli v2 c4_i32_255
  let v319 : BitVec 32 := Scalar.addi c0_i32_256 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v320 : BitVec 32 := Scalar.muli v5 c2_i32_257
  let v321 : BitVec 32 := Scalar.addi v319 v320
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_258 : BitVec 32 := 1#32
  let v322 : BitVec 32 := Scalar.muli v9 c1_i32_258
  let v323 : BitVec 32 := Scalar.addi v321 v322
  v323.toNat
def k0_dev12 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v352 : BitVec 32 := Scalar.muli v2 c4_i32_282
  let v353 : BitVec 32 := Scalar.addi c0_i32_283 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_284 : BitVec 32 := 2#32
  let v354 : BitVec 32 := Scalar.muli v5 c2_i32_284
  let v355 : BitVec 32 := Scalar.addi v353 v354
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_285 : BitVec 32 := 1#32
  let v356 : BitVec 32 := Scalar.muli v9 c1_i32_285
  let v357 : BitVec 32 := Scalar.addi v355 v356
  v357.toNat
def k0_dev13 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v386 : BitVec 32 := Scalar.muli v2 c4_i32_309
  let v387 : BitVec 32 := Scalar.addi c0_i32_310 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v388 : BitVec 32 := Scalar.muli v5 c2_i32_311
  let v389 : BitVec 32 := Scalar.addi v387 v388
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_312 : BitVec 32 := 1#32
  let v390 : BitVec 32 := Scalar.muli v9 c1_i32_312
  let v391 : BitVec 32 := Scalar.addi v389 v390
  v391.toNat
def k0_dev14 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_336 : BitVec 32 := 4#32
  let v420 : BitVec 32 := Scalar.muli v2 c4_i32_336
  let v421 : BitVec 32 := Scalar.addi c0_i32_337 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v422 : BitVec 32 := Scalar.muli v5 c2_i32_338
  let v423 : BitVec 32 := Scalar.addi v421 v422
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_339 : BitVec 32 := 1#32
  let v424 : BitVec 32 := Scalar.muli v9 c1_i32_339
  let v425 : BitVec 32 := Scalar.addi v423 v424
  v425.toNat
def k0_dev15 (d0 : Dev nD) : Nat :=
  let c0_i32_364 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_363 : BitVec 32 := 4#32
  let v454 : BitVec 32 := Scalar.muli v2 c4_i32_363
  let v455 : BitVec 32 := Scalar.addi c0_i32_364 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_365 : BitVec 32 := 2#32
  let v456 : BitVec 32 := Scalar.muli v5 c2_i32_365
  let v457 : BitVec 32 := Scalar.addi v455 v456
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_366 : BitVec 32 := 1#32
  let v458 : BitVec 32 := Scalar.muli v9 c1_i32_366
  let v459 : BitVec 32 := Scalar.addi v457 v458
  v459.toNat
def k0_dev16 (d0 : Dev nD) : Nat :=
  let c0_i32_391 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_390 : BitVec 32 := 4#32
  let v488 : BitVec 32 := Scalar.muli v2 c4_i32_390
  let v489 : BitVec 32 := Scalar.addi c0_i32_391 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_392 : BitVec 32 := 2#32
  let v490 : BitVec 32 := Scalar.muli v5 c2_i32_392
  let v491 : BitVec 32 := Scalar.addi v489 v490
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_393 : BitVec 32 := 1#32
  let v492 : BitVec 32 := Scalar.muli v9 c1_i32_393
  let v493 : BitVec 32 := Scalar.addi v491 v492
  v493.toNat
def k0_dev17 (d0 : Dev nD) : Nat :=
  let c0_i32_418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_417 : BitVec 32 := 4#32
  let v522 : BitVec 32 := Scalar.muli v2 c4_i32_417
  let v523 : BitVec 32 := Scalar.addi c0_i32_418 v522
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_419 : BitVec 32 := 2#32
  let v524 : BitVec 32 := Scalar.muli v5 c2_i32_419
  let v525 : BitVec 32 := Scalar.addi v523 v524
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_420 : BitVec 32 := 1#32
  let v526 : BitVec 32 := Scalar.muli v9 c1_i32_420
  let v527 : BitVec 32 := Scalar.addi v525 v526
  v527.toNat
def k0_dev18 (d0 : Dev nD) : Nat :=
  let c0_i32_445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_444 : BitVec 32 := 4#32
  let v556 : BitVec 32 := Scalar.muli v2 c4_i32_444
  let v557 : BitVec 32 := Scalar.addi c0_i32_445 v556
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_446 : BitVec 32 := 2#32
  let v558 : BitVec 32 := Scalar.muli v5 c2_i32_446
  let v559 : BitVec 32 := Scalar.addi v557 v558
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_447 : BitVec 32 := 1#32
  let v560 : BitVec 32 := Scalar.muli v9 c1_i32_447
  let v561 : BitVec 32 := Scalar.addi v559 v560
  v561.toNat
def k0_dev19 (d0 : Dev nD) : Nat :=
  let c0_i32_467 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_466 : BitVec 32 := 4#32
  let v583 : BitVec 32 := Scalar.muli v2 c4_i32_466
  let v584 : BitVec 32 := Scalar.addi c0_i32_467 v583
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v585 : BitVec 32 := Scalar.muli v5 c2_i32_468
  let v586 : BitVec 32 := Scalar.addi v584 v585
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_469 : BitVec 32 := 1#32
  let v587 : BitVec 32 := Scalar.muli v9 c1_i32_469
  let v588 : BitVec 32 := Scalar.addi v586 v587
  v588.toNat
def k0_off2 (d0 : Dev nD) (c0_i32_474 : BitVec 32) : Fin 3 → Nat :=
  let c0_i32_475 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c4096_i32 : BitVec 32 := 4096#32
  let v24 : BitVec 32 := Scalar.muli v13 c4096_i32
  let v597 : BitVec 32 := Scalar.addi v24 c0_i32_474
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_20 : BitVec 32 := 1024#32
  let v33 : BitVec 32 := Scalar.muli v8 c1024_i32_20
  ![0, v597.toNat, v33.toNat]
def k0_off3 (d0 : Dev nD) (c0_i32_513 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c4096_i32 : BitVec 32 := 4096#32
  let v24 : BitVec 32 := Scalar.muli v13 c4096_i32
  let v640 : BitVec 32 := Scalar.addi v24 c0_i32_513
  let c0_i32_521 : BitVec 32 := 0#32
  ![v640.toNat, 0]
def k0_dev20 (d0 : Dev nD) : Nat :=
  let c0_i32_518 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_517 : BitVec 32 := 4#32
  let v641 : BitVec 32 := Scalar.muli v10 c4_i32_517
  let v642 : BitVec 32 := Scalar.addi c0_i32_518 v641
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_519 : BitVec 32 := 2#32
  let v643 : BitVec 32 := Scalar.muli v5 c2_i32_519
  let v644 : BitVec 32 := Scalar.addi v642 v643
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_520 : BitVec 32 := 1#32
  let v645 : BitVec 32 := Scalar.muli v8 c1_i32_520
  let v646 : BitVec 32 := Scalar.addi v644 v645
  v646.toNat
def k0_dev21 (d0 : Dev nD) : Nat :=
  let c0_i32_529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_528 : BitVec 32 := 4#32
  let v655 : BitVec 32 := Scalar.muli v2 c4_i32_528
  let v656 : BitVec 32 := Scalar.addi c0_i32_529 v655
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_530 : BitVec 32 := 2#32
  let v657 : BitVec 32 := Scalar.muli v11 c2_i32_530
  let v658 : BitVec 32 := Scalar.addi v656 v657
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_531 : BitVec 32 := 1#32
  let v659 : BitVec 32 := Scalar.muli v8 c1_i32_531
  let v660 : BitVec 32 := Scalar.addi v658 v659
  v660.toNat
def k0_dev22 (d0 : Dev nD) : Nat :=
  let c0_i32_579 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_578 : BitVec 32 := 4#32
  let v711 : BitVec 32 := Scalar.muli v10 c4_i32_578
  let v712 : BitVec 32 := Scalar.addi c0_i32_579 v711
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_580 : BitVec 32 := 2#32
  let v713 : BitVec 32 := Scalar.muli v5 c2_i32_580
  let v714 : BitVec 32 := Scalar.addi v712 v713
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_581 : BitVec 32 := 1#32
  let v715 : BitVec 32 := Scalar.muli v8 c1_i32_581
  let v716 : BitVec 32 := Scalar.addi v714 v715
  v716.toNat
def k0_dev23 (d0 : Dev nD) : Nat :=
  let c0_i32_590 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_589 : BitVec 32 := 4#32
  let v725 : BitVec 32 := Scalar.muli v2 c4_i32_589
  let v726 : BitVec 32 := Scalar.addi c0_i32_590 v725
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_591 : BitVec 32 := 2#32
  let v727 : BitVec 32 := Scalar.muli v11 c2_i32_591
  let v728 : BitVec 32 := Scalar.addi v726 v727
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_592 : BitVec 32 := 1#32
  let v729 : BitVec 32 := Scalar.muli v8 c1_i32_592
  let v730 : BitVec 32 := Scalar.addi v728 v729
  v730.toNat
def k0_dev24 (d0 : Dev nD) : Nat :=
  let c0_i32_640 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_639 : BitVec 32 := 4#32
  let v781 : BitVec 32 := Scalar.muli v10 c4_i32_639
  let v782 : BitVec 32 := Scalar.addi c0_i32_640 v781
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_641 : BitVec 32 := 2#32
  let v783 : BitVec 32 := Scalar.muli v5 c2_i32_641
  let v784 : BitVec 32 := Scalar.addi v782 v783
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_642 : BitVec 32 := 1#32
  let v785 : BitVec 32 := Scalar.muli v8 c1_i32_642
  let v786 : BitVec 32 := Scalar.addi v784 v785
  v786.toNat
def k0_dev25 (d0 : Dev nD) : Nat :=
  let c0_i32_651 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_650 : BitVec 32 := 4#32
  let v795 : BitVec 32 := Scalar.muli v2 c4_i32_650
  let v796 : BitVec 32 := Scalar.addi c0_i32_651 v795
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_652 : BitVec 32 := 2#32
  let v797 : BitVec 32 := Scalar.muli v11 c2_i32_652
  let v798 : BitVec 32 := Scalar.addi v796 v797
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_653 : BitVec 32 := 1#32
  let v799 : BitVec 32 := Scalar.muli v8 c1_i32_653
  let v800 : BitVec 32 := Scalar.addi v798 v799
  v800.toNat
def k0_dev26 (d0 : Dev nD) : Nat :=
  let c0_i32_701 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_700 : BitVec 32 := 4#32
  let v851 : BitVec 32 := Scalar.muli v10 c4_i32_700
  let v852 : BitVec 32 := Scalar.addi c0_i32_701 v851
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_702 : BitVec 32 := 2#32
  let v853 : BitVec 32 := Scalar.muli v5 c2_i32_702
  let v854 : BitVec 32 := Scalar.addi v852 v853
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_703 : BitVec 32 := 1#32
  let v855 : BitVec 32 := Scalar.muli v8 c1_i32_703
  let v856 : BitVec 32 := Scalar.addi v854 v855
  v856.toNat
def k0_dev27 (d0 : Dev nD) : Nat :=
  let c0_i32_712 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_711 : BitVec 32 := 4#32
  let v865 : BitVec 32 := Scalar.muli v2 c4_i32_711
  let v866 : BitVec 32 := Scalar.addi c0_i32_712 v865
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_713 : BitVec 32 := 2#32
  let v867 : BitVec 32 := Scalar.muli v11 c2_i32_713
  let v868 : BitVec 32 := Scalar.addi v866 v867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_714 : BitVec 32 := 1#32
  let v869 : BitVec 32 := Scalar.muli v8 c1_i32_714
  let v870 : BitVec 32 := Scalar.addi v868 v869
  v870.toNat
def k0_dev28 (d0 : Dev nD) : Nat :=
  let c0_i32_762 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_761 : BitVec 32 := 4#32
  let v921 : BitVec 32 := Scalar.muli v10 c4_i32_761
  let v922 : BitVec 32 := Scalar.addi c0_i32_762 v921
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_763 : BitVec 32 := 2#32
  let v923 : BitVec 32 := Scalar.muli v5 c2_i32_763
  let v924 : BitVec 32 := Scalar.addi v922 v923
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_764 : BitVec 32 := 1#32
  let v925 : BitVec 32 := Scalar.muli v8 c1_i32_764
  let v926 : BitVec 32 := Scalar.addi v924 v925
  v926.toNat
def k0_dev29 (d0 : Dev nD) : Nat :=
  let c0_i32_773 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_772 : BitVec 32 := 4#32
  let v935 : BitVec 32 := Scalar.muli v2 c4_i32_772
  let v936 : BitVec 32 := Scalar.addi c0_i32_773 v935
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_774 : BitVec 32 := 2#32
  let v937 : BitVec 32 := Scalar.muli v11 c2_i32_774
  let v938 : BitVec 32 := Scalar.addi v936 v937
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_775 : BitVec 32 := 1#32
  let v939 : BitVec 32 := Scalar.muli v8 c1_i32_775
  let v940 : BitVec 32 := Scalar.addi v938 v939
  v940.toNat
def k0_dev30 (d0 : Dev nD) : Nat :=
  let c0_i32_823 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_822 : BitVec 32 := 4#32
  let v991 : BitVec 32 := Scalar.muli v10 c4_i32_822
  let v992 : BitVec 32 := Scalar.addi c0_i32_823 v991
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_824 : BitVec 32 := 2#32
  let v993 : BitVec 32 := Scalar.muli v5 c2_i32_824
  let v994 : BitVec 32 := Scalar.addi v992 v993
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_825 : BitVec 32 := 1#32
  let v995 : BitVec 32 := Scalar.muli v8 c1_i32_825
  let v996 : BitVec 32 := Scalar.addi v994 v995
  v996.toNat
def k0_dev31 (d0 : Dev nD) : Nat :=
  let c0_i32_834 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_833 : BitVec 32 := 4#32
  let v1005 : BitVec 32 := Scalar.muli v2 c4_i32_833
  let v1006 : BitVec 32 := Scalar.addi c0_i32_834 v1005
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_835 : BitVec 32 := 2#32
  let v1007 : BitVec 32 := Scalar.muli v11 c2_i32_835
  let v1008 : BitVec 32 := Scalar.addi v1006 v1007
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_836 : BitVec 32 := 1#32
  let v1009 : BitVec 32 := Scalar.muli v8 c1_i32_836
  let v1010 : BitVec 32 := Scalar.addi v1008 v1009
  v1010.toNat
def k0_dev32 (d0 : Dev nD) : Nat :=
  let c0_i32_884 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_883 : BitVec 32 := 4#32
  let v1061 : BitVec 32 := Scalar.muli v10 c4_i32_883
  let v1062 : BitVec 32 := Scalar.addi c0_i32_884 v1061
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_885 : BitVec 32 := 2#32
  let v1063 : BitVec 32 := Scalar.muli v5 c2_i32_885
  let v1064 : BitVec 32 := Scalar.addi v1062 v1063
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_886 : BitVec 32 := 1#32
  let v1065 : BitVec 32 := Scalar.muli v8 c1_i32_886
  let v1066 : BitVec 32 := Scalar.addi v1064 v1065
  v1066.toNat
def k0_dev33 (d0 : Dev nD) : Nat :=
  let c0_i32_895 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_894 : BitVec 32 := 4#32
  let v1075 : BitVec 32 := Scalar.muli v2 c4_i32_894
  let v1076 : BitVec 32 := Scalar.addi c0_i32_895 v1075
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_896 : BitVec 32 := 2#32
  let v1077 : BitVec 32 := Scalar.muli v11 c2_i32_896
  let v1078 : BitVec 32 := Scalar.addi v1076 v1077
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_897 : BitVec 32 := 1#32
  let v1079 : BitVec 32 := Scalar.muli v8 c1_i32_897
  let v1080 : BitVec 32 := Scalar.addi v1078 v1079
  v1080.toNat
def k0_dev34 (d0 : Dev nD) : Nat :=
  let c0_i32_945 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_944 : BitVec 32 := 4#32
  let v1131 : BitVec 32 := Scalar.muli v10 c4_i32_944
  let v1132 : BitVec 32 := Scalar.addi c0_i32_945 v1131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_946 : BitVec 32 := 2#32
  let v1133 : BitVec 32 := Scalar.muli v5 c2_i32_946
  let v1134 : BitVec 32 := Scalar.addi v1132 v1133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_947 : BitVec 32 := 1#32
  let v1135 : BitVec 32 := Scalar.muli v8 c1_i32_947
  let v1136 : BitVec 32 := Scalar.addi v1134 v1135
  v1136.toNat
def k0_dev35 (d0 : Dev nD) : Nat :=
  let c0_i32_956 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_955 : BitVec 32 := 4#32
  let v1145 : BitVec 32 := Scalar.muli v2 c4_i32_955
  let v1146 : BitVec 32 := Scalar.addi c0_i32_956 v1145
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_957 : BitVec 32 := 2#32
  let v1147 : BitVec 32 := Scalar.muli v11 c2_i32_957
  let v1148 : BitVec 32 := Scalar.addi v1146 v1147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_958 : BitVec 32 := 1#32
  let v1149 : BitVec 32 := Scalar.muli v8 c1_i32_958
  let v1150 : BitVec 32 := Scalar.addi v1148 v1149
  v1150.toNat
def k0_dev36 (d0 : Dev nD) : Nat :=
  let c0_i32_1006 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1005 : BitVec 32 := 4#32
  let v1201 : BitVec 32 := Scalar.muli v10 c4_i32_1005
  let v1202 : BitVec 32 := Scalar.addi c0_i32_1006 v1201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1007 : BitVec 32 := 2#32
  let v1203 : BitVec 32 := Scalar.muli v5 c2_i32_1007
  let v1204 : BitVec 32 := Scalar.addi v1202 v1203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1008 : BitVec 32 := 1#32
  let v1205 : BitVec 32 := Scalar.muli v8 c1_i32_1008
  let v1206 : BitVec 32 := Scalar.addi v1204 v1205
  v1206.toNat
def k0_dev37 (d0 : Dev nD) : Nat :=
  let c0_i32_1017 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1016 : BitVec 32 := 4#32
  let v1215 : BitVec 32 := Scalar.muli v2 c4_i32_1016
  let v1216 : BitVec 32 := Scalar.addi c0_i32_1017 v1215
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1018 : BitVec 32 := 2#32
  let v1217 : BitVec 32 := Scalar.muli v11 c2_i32_1018
  let v1218 : BitVec 32 := Scalar.addi v1216 v1217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1019 : BitVec 32 := 1#32
  let v1219 : BitVec 32 := Scalar.muli v8 c1_i32_1019
  let v1220 : BitVec 32 := Scalar.addi v1218 v1219
  v1220.toNat
def k0_dev38 (d0 : Dev nD) : Nat :=
  let c0_i32_1067 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1066 : BitVec 32 := 4#32
  let v1271 : BitVec 32 := Scalar.muli v10 c4_i32_1066
  let v1272 : BitVec 32 := Scalar.addi c0_i32_1067 v1271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1068 : BitVec 32 := 2#32
  let v1273 : BitVec 32 := Scalar.muli v5 c2_i32_1068
  let v1274 : BitVec 32 := Scalar.addi v1272 v1273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1069 : BitVec 32 := 1#32
  let v1275 : BitVec 32 := Scalar.muli v8 c1_i32_1069
  let v1276 : BitVec 32 := Scalar.addi v1274 v1275
  v1276.toNat
def k0_dev39 (d0 : Dev nD) : Nat :=
  let c0_i32_1078 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1077 : BitVec 32 := 4#32
  let v1285 : BitVec 32 := Scalar.muli v2 c4_i32_1077
  let v1286 : BitVec 32 := Scalar.addi c0_i32_1078 v1285
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1079 : BitVec 32 := 2#32
  let v1287 : BitVec 32 := Scalar.muli v11 c2_i32_1079
  let v1288 : BitVec 32 := Scalar.addi v1286 v1287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1080 : BitVec 32 := 1#32
  let v1289 : BitVec 32 := Scalar.muli v8 c1_i32_1080
  let v1290 : BitVec 32 := Scalar.addi v1288 v1289
  v1290.toNat
def k0_dev40 (d0 : Dev nD) : Nat :=
  let c0_i32_1128 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1127 : BitVec 32 := 4#32
  let v1341 : BitVec 32 := Scalar.muli v10 c4_i32_1127
  let v1342 : BitVec 32 := Scalar.addi c0_i32_1128 v1341
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1129 : BitVec 32 := 2#32
  let v1343 : BitVec 32 := Scalar.muli v5 c2_i32_1129
  let v1344 : BitVec 32 := Scalar.addi v1342 v1343
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1130 : BitVec 32 := 1#32
  let v1345 : BitVec 32 := Scalar.muli v8 c1_i32_1130
  let v1346 : BitVec 32 := Scalar.addi v1344 v1345
  v1346.toNat
def k0_dev41 (d0 : Dev nD) : Nat :=
  let c0_i32_1139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1138 : BitVec 32 := 4#32
  let v1355 : BitVec 32 := Scalar.muli v2 c4_i32_1138
  let v1356 : BitVec 32 := Scalar.addi c0_i32_1139 v1355
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1140 : BitVec 32 := 2#32
  let v1357 : BitVec 32 := Scalar.muli v11 c2_i32_1140
  let v1358 : BitVec 32 := Scalar.addi v1356 v1357
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1141 : BitVec 32 := 1#32
  let v1359 : BitVec 32 := Scalar.muli v8 c1_i32_1141
  let v1360 : BitVec 32 := Scalar.addi v1358 v1359
  v1360.toNat
def k0_dev42 (d0 : Dev nD) : Nat :=
  let c0_i32_1189 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1188 : BitVec 32 := 4#32
  let v1411 : BitVec 32 := Scalar.muli v10 c4_i32_1188
  let v1412 : BitVec 32 := Scalar.addi c0_i32_1189 v1411
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1190 : BitVec 32 := 2#32
  let v1413 : BitVec 32 := Scalar.muli v5 c2_i32_1190
  let v1414 : BitVec 32 := Scalar.addi v1412 v1413
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1191 : BitVec 32 := 1#32
  let v1415 : BitVec 32 := Scalar.muli v8 c1_i32_1191
  let v1416 : BitVec 32 := Scalar.addi v1414 v1415
  v1416.toNat
def k0_dev43 (d0 : Dev nD) : Nat :=
  let c0_i32_1200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1199 : BitVec 32 := 4#32
  let v1425 : BitVec 32 := Scalar.muli v2 c4_i32_1199
  let v1426 : BitVec 32 := Scalar.addi c0_i32_1200 v1425
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1201 : BitVec 32 := 2#32
  let v1427 : BitVec 32 := Scalar.muli v11 c2_i32_1201
  let v1428 : BitVec 32 := Scalar.addi v1426 v1427
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1202 : BitVec 32 := 1#32
  let v1429 : BitVec 32 := Scalar.muli v8 c1_i32_1202
  let v1430 : BitVec 32 := Scalar.addi v1428 v1429
  v1430.toNat
def k0_dev44 (d0 : Dev nD) : Nat :=
  let c0_i32_1250 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1249 : BitVec 32 := 4#32
  let v1481 : BitVec 32 := Scalar.muli v10 c4_i32_1249
  let v1482 : BitVec 32 := Scalar.addi c0_i32_1250 v1481
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1251 : BitVec 32 := 2#32
  let v1483 : BitVec 32 := Scalar.muli v5 c2_i32_1251
  let v1484 : BitVec 32 := Scalar.addi v1482 v1483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1252 : BitVec 32 := 1#32
  let v1485 : BitVec 32 := Scalar.muli v8 c1_i32_1252
  let v1486 : BitVec 32 := Scalar.addi v1484 v1485
  v1486.toNat
def k0_dev45 (d0 : Dev nD) : Nat :=
  let c0_i32_1261 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1260 : BitVec 32 := 4#32
  let v1495 : BitVec 32 := Scalar.muli v2 c4_i32_1260
  let v1496 : BitVec 32 := Scalar.addi c0_i32_1261 v1495
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1262 : BitVec 32 := 2#32
  let v1497 : BitVec 32 := Scalar.muli v11 c2_i32_1262
  let v1498 : BitVec 32 := Scalar.addi v1496 v1497
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1263 : BitVec 32 := 1#32
  let v1499 : BitVec 32 := Scalar.muli v8 c1_i32_1263
  let v1500 : BitVec 32 := Scalar.addi v1498 v1499
  v1500.toNat
def k0_dev46 (d0 : Dev nD) : Nat :=
  let c0_i32_1311 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1310 : BitVec 32 := 4#32
  let v1551 : BitVec 32 := Scalar.muli v10 c4_i32_1310
  let v1552 : BitVec 32 := Scalar.addi c0_i32_1311 v1551
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1312 : BitVec 32 := 2#32
  let v1553 : BitVec 32 := Scalar.muli v5 c2_i32_1312
  let v1554 : BitVec 32 := Scalar.addi v1552 v1553
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1313 : BitVec 32 := 1#32
  let v1555 : BitVec 32 := Scalar.muli v8 c1_i32_1313
  let v1556 : BitVec 32 := Scalar.addi v1554 v1555
  v1556.toNat
def k0_dev47 (d0 : Dev nD) : Nat :=
  let c0_i32_1322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1321 : BitVec 32 := 4#32
  let v1565 : BitVec 32 := Scalar.muli v2 c4_i32_1321
  let v1566 : BitVec 32 := Scalar.addi c0_i32_1322 v1565
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1323 : BitVec 32 := 2#32
  let v1567 : BitVec 32 := Scalar.muli v11 c2_i32_1323
  let v1568 : BitVec 32 := Scalar.addi v1566 v1567
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1324 : BitVec 32 := 1#32
  let v1569 : BitVec 32 := Scalar.muli v8 c1_i32_1324
  let v1570 : BitVec 32 := Scalar.addi v1568 v1569
  v1570.toNat
def k0_dev48 (d0 : Dev nD) : Nat :=
  let c0_i32_1372 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1371 : BitVec 32 := 4#32
  let v1621 : BitVec 32 := Scalar.muli v10 c4_i32_1371
  let v1622 : BitVec 32 := Scalar.addi c0_i32_1372 v1621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1373 : BitVec 32 := 2#32
  let v1623 : BitVec 32 := Scalar.muli v5 c2_i32_1373
  let v1624 : BitVec 32 := Scalar.addi v1622 v1623
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1374 : BitVec 32 := 1#32
  let v1625 : BitVec 32 := Scalar.muli v8 c1_i32_1374
  let v1626 : BitVec 32 := Scalar.addi v1624 v1625
  v1626.toNat
def k0_dev49 (d0 : Dev nD) : Nat :=
  let c0_i32_1383 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1382 : BitVec 32 := 4#32
  let v1635 : BitVec 32 := Scalar.muli v2 c4_i32_1382
  let v1636 : BitVec 32 := Scalar.addi c0_i32_1383 v1635
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1384 : BitVec 32 := 2#32
  let v1637 : BitVec 32 := Scalar.muli v11 c2_i32_1384
  let v1638 : BitVec 32 := Scalar.addi v1636 v1637
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1385 : BitVec 32 := 1#32
  let v1639 : BitVec 32 := Scalar.muli v8 c1_i32_1385
  let v1640 : BitVec 32 := Scalar.addi v1638 v1639
  v1640.toNat
def k0_dev50 (d0 : Dev nD) : Nat :=
  let c0_i32_1427 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1426 : BitVec 32 := 4#32
  let v1684 : BitVec 32 := Scalar.muli v10 c4_i32_1426
  let v1685 : BitVec 32 := Scalar.addi c0_i32_1427 v1684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1428 : BitVec 32 := 2#32
  let v1686 : BitVec 32 := Scalar.muli v5 c2_i32_1428
  let v1687 : BitVec 32 := Scalar.addi v1685 v1686
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1429 : BitVec 32 := 1#32
  let v1688 : BitVec 32 := Scalar.muli v8 c1_i32_1429
  let v1689 : BitVec 32 := Scalar.addi v1687 v1688
  v1689.toNat
def k0_dev51 (d0 : Dev nD) : Nat :=
  let c0_i32_1438 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1437 : BitVec 32 := 4#32
  let v1698 : BitVec 32 := Scalar.muli v2 c4_i32_1437
  let v1699 : BitVec 32 := Scalar.addi c0_i32_1438 v1698
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1439 : BitVec 32 := 2#32
  let v1700 : BitVec 32 := Scalar.muli v11 c2_i32_1439
  let v1701 : BitVec 32 := Scalar.addi v1699 v1700
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1440 : BitVec 32 := 1#32
  let v1702 : BitVec 32 := Scalar.muli v8 c1_i32_1440
  let v1703 : BitVec 32 := Scalar.addi v1701 v1702
  v1703.toNat
def k0_cond1 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v2 v5
  let c2_i32_17 : BitVec 32 := 2#32
  let v29 : BitVec 32 := Scalar.remsi v28 c2_i32_17
  let c0_i32_1450 : BitVec 32 := 0#32
  let v1717 : BitVec 1 := Scalar.cmpi .eq v29 c0_i32_1450
  let v1718 : BitVec 32 := Scalar.extui v1717
  let c0_i32_1451 : BitVec 32 := 0#32
  let v1719 : BitVec 1 := Scalar.cmpi .ne v1718 c0_i32_1451
  v1719

def k0_off4 (d0 : Dev nD) (c0_i32_1998 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_15 : BitVec 32 := 4096#32
  let v26 : BitVec 32 := Scalar.muli v19 c4096_i32_15
  let v2173 : BitVec 32 := Scalar.addi v26 c0_i32_1998
  let c0_i32_2006 : BitVec 32 := 0#32
  ![v2173.toNat, 0]
def k0_cond2 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v2 v5
  let c2_i32_17 : BitVec 32 := 2#32
  let v29 : BitVec 32 := Scalar.remsi v28 c2_i32_17
  let c1_i32_1452 : BitVec 32 := 1#32
  let v1720 : BitVec 1 := Scalar.cmpi .eq v29 c1_i32_1452
  let v1721 : BitVec 32 := Scalar.extui v1720
  let c0_i32_1453 : BitVec 32 := 0#32
  let v1722 : BitVec 1 := Scalar.cmpi .ne v1721 c0_i32_1453
  v1722

def k0_off5 (d0 : Dev nD) (c2048_i32_1998 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_15 : BitVec 32 := 4096#32
  let v26 : BitVec 32 := Scalar.muli v19 c4096_i32_15
  let v2173 : BitVec 32 := Scalar.addi v26 c2048_i32_1998
  let c0_i32_2006 : BitVec 32 := 0#32
  ![v2173.toNat, 0]
def k0_off6 (d0 : Dev nD) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_15 : BitVec 32 := 4096#32
  let v26 : BitVec 32 := Scalar.muli v19 c4096_i32_15
  let v28 : BitVec 32 := Scalar.addi v2 v5
  let c2_i32_17 : BitVec 32 := 2#32
  let v29 : BitVec 32 := Scalar.remsi v28 c2_i32_17
  let c2048_i32_1454 : BitVec 32 := 2048#32
  let v1723 : BitVec 32 := Scalar.muli v29 c2048_i32_1454
  let v1724 : BitVec 32 := Scalar.addi v26 v1723
  let c0_i32_1459 : BitVec 32 := 0#32
  ![v1724.toNat, 0]
def k0_dev52 (d0 : Dev nD) : Nat :=
  let c0_i32_1456 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1455 : BitVec 32 := 4#32
  let v1725 : BitVec 32 := Scalar.muli v10 c4_i32_1455
  let v1726 : BitVec 32 := Scalar.addi c0_i32_1456 v1725
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1457 : BitVec 32 := 2#32
  let v1727 : BitVec 32 := Scalar.muli v5 c2_i32_1457
  let v1728 : BitVec 32 := Scalar.addi v1726 v1727
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1458 : BitVec 32 := 1#32
  let v1729 : BitVec 32 := Scalar.muli v8 c1_i32_1458
  let v1730 : BitVec 32 := Scalar.addi v1728 v1729
  v1730.toNat
def k0_cond3 (d0 : Dev nD) : BitVec 1 :=
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v2 v5
  let c2_i32_17 : BitVec 32 := 2#32
  let v29 : BitVec 32 := Scalar.remsi v28 c2_i32_17
  let v30 : BitVec 32 := Scalar.subi c1_i32_18 v29
  let c0_i32_1461 : BitVec 32 := 0#32
  let v1733 : BitVec 1 := Scalar.cmpi .eq v30 c0_i32_1461
  let v1734 : BitVec 32 := Scalar.extui v1733
  let c0_i32_1462 : BitVec 32 := 0#32
  let v1735 : BitVec 1 := Scalar.cmpi .ne v1734 c0_i32_1462
  v1735

def k0_off7 (d0 : Dev nD) (c0_i32_1998 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_14 : BitVec 32 := 4096#32
  let v25 : BitVec 32 := Scalar.muli v16 c4096_i32_14
  let v2173 : BitVec 32 := Scalar.addi v25 c0_i32_1998
  let c0_i32_2006 : BitVec 32 := 0#32
  ![v2173.toNat, 0]
def k0_cond4 (d0 : Dev nD) : BitVec 1 :=
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v2 v5
  let c2_i32_17 : BitVec 32 := 2#32
  let v29 : BitVec 32 := Scalar.remsi v28 c2_i32_17
  let v30 : BitVec 32 := Scalar.subi c1_i32_18 v29
  let c1_i32_1463 : BitVec 32 := 1#32
  let v1736 : BitVec 1 := Scalar.cmpi .eq v30 c1_i32_1463
  let v1737 : BitVec 32 := Scalar.extui v1736
  let c0_i32_1464 : BitVec 32 := 0#32
  let v1738 : BitVec 1 := Scalar.cmpi .ne v1737 c0_i32_1464
  v1738

def k0_off8 (d0 : Dev nD) (c2048_i32_1998 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_14 : BitVec 32 := 4096#32
  let v25 : BitVec 32 := Scalar.muli v16 c4096_i32_14
  let v2173 : BitVec 32 := Scalar.addi v25 c2048_i32_1998
  let c0_i32_2006 : BitVec 32 := 0#32
  ![v2173.toNat, 0]
def k0_off9 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_14 : BitVec 32 := 4096#32
  let v25 : BitVec 32 := Scalar.muli v16 c4096_i32_14
  let c1_i32_18 : BitVec 32 := 1#32
  let v28 : BitVec 32 := Scalar.addi v2 v5
  let c2_i32_17 : BitVec 32 := 2#32
  let v29 : BitVec 32 := Scalar.remsi v28 c2_i32_17
  let v30 : BitVec 32 := Scalar.subi c1_i32_18 v29
  let c2048_i32_1465 : BitVec 32 := 2048#32
  let v1739 : BitVec 32 := Scalar.muli v30 c2048_i32_1465
  let v1740 : BitVec 32 := Scalar.addi v25 v1739
  let c0_i32_1470 : BitVec 32 := 0#32
  ![v1740.toNat, 0]
def k0_dev53 (d0 : Dev nD) : Nat :=
  let c0_i32_1467 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1466 : BitVec 32 := 4#32
  let v1741 : BitVec 32 := Scalar.muli v2 c4_i32_1466
  let v1742 : BitVec 32 := Scalar.addi c0_i32_1467 v1741
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1468 : BitVec 32 := 2#32
  let v1743 : BitVec 32 := Scalar.muli v11 c2_i32_1468
  let v1744 : BitVec 32 := Scalar.addi v1742 v1743
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1469 : BitVec 32 := 1#32
  let v1745 : BitVec 32 := Scalar.muli v8 c1_i32_1469
  let v1746 : BitVec 32 := Scalar.addi v1744 v1745
  v1746.toNat
def k0_cond5 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v2 v5
  let c2_i32_17 : BitVec 32 := 2#32
  let v29 : BitVec 32 := Scalar.remsi v28 c2_i32_17
  let c0_i32_1472 : BitVec 32 := 0#32
  let v1749 : BitVec 1 := Scalar.cmpi .eq v29 c0_i32_1472
  let v1750 : BitVec 32 := Scalar.extui v1749
  let c0_i32_1473 : BitVec 32 := 0#32
  let v1751 : BitVec 1 := Scalar.cmpi .ne v1750 c0_i32_1473
  v1751

def k0_off10 (d0 : Dev nD) (c2048_i32_1998 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_15 : BitVec 32 := 4096#32
  let v26 : BitVec 32 := Scalar.muli v19 c4096_i32_15
  let v2173 : BitVec 32 := Scalar.addi v26 c2048_i32_1998
  let c0_i32_2006 : BitVec 32 := 0#32
  ![v2173.toNat, 0]
def k0_cond6 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v2 v5
  let c2_i32_17 : BitVec 32 := 2#32
  let v29 : BitVec 32 := Scalar.remsi v28 c2_i32_17
  let c1_i32_1474 : BitVec 32 := 1#32
  let v1752 : BitVec 1 := Scalar.cmpi .eq v29 c1_i32_1474
  let v1753 : BitVec 32 := Scalar.extui v1752
  let c0_i32_1475 : BitVec 32 := 0#32
  let v1754 : BitVec 1 := Scalar.cmpi .ne v1753 c0_i32_1475
  v1754

def k0_off11 (d0 : Dev nD) (c0_i32_1998 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c4096_i32_15 : BitVec 32 := 4096#32
  let v26 : BitVec 32 := Scalar.muli v19 c4096_i32_15
  let v2173 : BitVec 32 := Scalar.addi v26 c0_i32_1998
  let c0_i32_2006 : BitVec 32 := 0#32
  ![v2173.toNat, 0]
def k0_cond7 (d0 : Dev nD) : BitVec 1 :=
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v2 v5
  let c2_i32_17 : BitVec 32 := 2#32
  let v29 : BitVec 32 := Scalar.remsi v28 c2_i32_17
  let v30 : BitVec 32 := Scalar.subi c1_i32_18 v29
  let c0_i32_1476 : BitVec 32 := 0#32
  let v1755 : BitVec 1 := Scalar.cmpi .eq v30 c0_i32_1476
  let v1756 : BitVec 32 := Scalar.extui v1755
  let c0_i32_1477 : BitVec 32 := 0#32
  let v1757 : BitVec 1 := Scalar.cmpi .ne v1756 c0_i32_1477
  v1757

def k0_off12 (d0 : Dev nD) (c2048_i32_1998 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_14 : BitVec 32 := 4096#32
  let v25 : BitVec 32 := Scalar.muli v16 c4096_i32_14
  let v2173 : BitVec 32 := Scalar.addi v25 c2048_i32_1998
  let c0_i32_2006 : BitVec 32 := 0#32
  ![v2173.toNat, 0]
def k0_cond8 (d0 : Dev nD) : BitVec 1 :=
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v2 v5
  let c2_i32_17 : BitVec 32 := 2#32
  let v29 : BitVec 32 := Scalar.remsi v28 c2_i32_17
  let v30 : BitVec 32 := Scalar.subi c1_i32_18 v29
  let c1_i32_1478 : BitVec 32 := 1#32
  let v1758 : BitVec 1 := Scalar.cmpi .eq v30 c1_i32_1478
  let v1759 : BitVec 32 := Scalar.extui v1758
  let c0_i32_1479 : BitVec 32 := 0#32
  let v1760 : BitVec 1 := Scalar.cmpi .ne v1759 c0_i32_1479
  v1760

def k0_off13 (d0 : Dev nD) (c0_i32_1998 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4096_i32_14 : BitVec 32 := 4096#32
  let v25 : BitVec 32 := Scalar.muli v16 c4096_i32_14
  let v2173 : BitVec 32 := Scalar.addi v25 c0_i32_1998
  let c0_i32_2006 : BitVec 32 := 0#32
  ![v2173.toNat, 0]
def k0_off14 (d0 : Dev nD) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c4096_i32_16 : BitVec 32 := 4096#32
  let v27 : BitVec 32 := Scalar.muli v23 c4096_i32_16
  let c1_i32_18 : BitVec 32 := 1#32
  let v28 : BitVec 32 := Scalar.addi v2 v5
  let c2_i32_17 : BitVec 32 := 2#32
  let v29 : BitVec 32 := Scalar.remsi v28 c2_i32_17
  let v30 : BitVec 32 := Scalar.subi c1_i32_18 v29
  let c2048_i32_1480 : BitVec 32 := 2048#32
  let v1761 : BitVec 32 := Scalar.muli v30 c2048_i32_1480
  let v1762 : BitVec 32 := Scalar.addi v27 v1761
  let c0_i32_1485 : BitVec 32 := 0#32
  ![v1762.toNat, 0]
def k0_off15 (d0 : Dev nD) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c4096_i32_16 : BitVec 32 := 4096#32
  let v27 : BitVec 32 := Scalar.muli v23 c4096_i32_16
  let v28 : BitVec 32 := Scalar.addi v2 v5
  let c2_i32_17 : BitVec 32 := 2#32
  let v29 : BitVec 32 := Scalar.remsi v28 c2_i32_17
  let c2048_i32_1487 : BitVec 32 := 2048#32
  let v1771 : BitVec 32 := Scalar.muli v29 c2048_i32_1487
  let v1772 : BitVec 32 := Scalar.addi v27 v1771
  let c0_i32_1492 : BitVec 32 := 0#32
  ![v1772.toNat, 0]
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | .hbm, ⟨3, _⟩ => ⟨S16384x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
# The kernel's body, step by step

The printed body lists every memory operation of the sixteen chunks one after another. Here it is stated once per
chunk: a load of the input, the phase that sends the partner's half, the phase that sums and gathers, the waits. The
body as printed is these steps in order (`body_steps`), so that each step is proved once for every chunk.
-/
module

public import proofs.«01_k».proof.Proof.Gen.KernelIdeal
public import proofs.«01_k».proof.Proof.Gen.KernelIdeal.Points

@[expose] public section

noncomputable section

namespace Cert.Gather

open Cert.KernelIdeal Cert.KernelIdeal.Gen
open Idealize.ShloMosaic Idealize.ShloMosaic.TcCoe
open Idealize.SL Idealize.SL.Sem

variable {F : FTy → Type} [FloatOps F]

/-- A program of one core of the mesh. -/
abbrev TProg (F : FTy → Type) [FloatOps F] : Type 1 := Prog (TpuEff nD τ sig (Elt F) Λ₀ .tc) PUnit

/-! ## The mesh: device `4x + 2y + z` -/

/-- The device across the z axis, that holds the other block of the input. -/
def zp (d : Dev nD) : Dev nD := ⟨2 * (d.val / 2) + (1 - d.val % 2), by revert d; decide⟩
/-- The neighbour across the x axis. -/
def xn (d : Dev nD) : Dev nD := ⟨(d.val + 4) % 8, by revert d; decide⟩
/-- The neighbour across the y axis. -/
def yn (d : Dev nD) : Dev nD := ⟨4 * (d.val / 4) + (d.val + 2) % 4, by revert d; decide⟩

/-- The device's place on the z axis: the half of the columns it owns. -/
def zOf (d : Dev nD) : Fin 2 := ⟨d.val % 2, Nat.mod_lt _ (by decide)⟩
/-- The quarter of the rows the device sums. -/
def qOf (d : Dev nD) : Fin 4 := ⟨d.val / 2, by revert d; decide⟩
/-- The half of the y neighbour's quarter that the device forwards along x. -/
def hx (d : Dev nD) : Fin 2 := ⟨(d.val / 4 + d.val / 2) % 2, Nat.mod_lt _ (by decide)⟩
/-- The half of the x neighbour's quarter that the device forwards along y. -/
def hy (d : Dev nD) : Fin 2 := ⟨1 - (hx d).val, by omega⟩

/-- Chunk `j` of half `h` of a quarter. -/
def chunkOf (h : Fin 2) (j : Fin 8) : Fin 16 := ⟨8 * h.val + j.val, by omega⟩

/-! ## The chunks' rectangles and views -/

/-- A slot lies in the staging buffer. -/
theorem slot_inb (b : Fin 2) : ∀ a, (![b.val, 0, 0] : Fin 3 → Nat) a + S1x256x1024.size a ≤ S2x256x1024.size a := by
  revert b; decide

/-- A chunk lies in a chunk buffer. -/
theorem chunk_inb (r : Fin 16) : ∀ a, (![r.val, 0, 0] : Fin 3 → Nat) a + S1x256x1024.size a ≤ S16x256x1024.size a := by
  revert r; decide

/-- The rectangle of staging slot `b`. -/
abbrev slotR (b : Fin 2) : Rect S2x256x1024 :=
  Rect.unit (s := S2x256x1024) ![b.val, 0, 0] S1x256x1024.size (slot_inb b)

/-- The rectangle of chunk `r` in a sixteen-chunk buffer. -/
abbrev chunkR (r : Fin 16) : Rect S16x256x1024 :=
  Rect.unit (s := S16x256x1024) ![r.val, 0, 0] S1x256x1024.size (chunk_inb r)

/-- A chunk is made of whole words. -/
theorem chunk_words (r : Fin 16) : (chunkR r).WholeWords (EltTy.packing .bf16) := by revert r; decide
/-- A chunk is made of whole packed rows. -/
theorem chunk_packed (r : Fin 16) : (chunkR r).PackedRows (EltTy.packing .bf16) := by revert r; decide

/-- A semaphore lies in its array. -/
theorem sem16_inb (r : Fin 16) : ∀ a, (![r.val] : Fin 1 → Nat) a + S1.size a ≤ S16.size a := by revert r; decide
theorem sem2_inb (b : Fin 2) : ∀ a, (![b.val] : Fin 1 → Nat) a + S1.size a ≤ S2.size a := by revert b; decide

/-- The staging slots of the input's chunks. -/
abbrev vfV (b : Fin 2) : Memref sig .tc .vmem S256x1024 .f32 :=
  ((Memref.whole cc0_scratch0).slice (slotR b) (fun _ => rfl)).squeeze S256x1024 squeezes_S1x256x1024_S256x1024
/-- Chunk `r` of the rounded half to send. -/
abbrev vsV (r : Fin 16) : Memref sig .tc .vmem S256x1024 .bf16 :=
  ((Memref.whole cc0_scratch1).slice (chunkR r) (fun _ => rfl)).squeeze S256x1024 squeezes_S1x256x1024_S256x1024
/-- Chunk `r` of the half received from the partner. -/
abbrev rzV (r : Fin 16) : Memref sig .tc .vmem S256x1024 .bf16 :=
  ((Memref.whole cc0_scratch2).slice (chunkR r) (fun _ => rfl)).squeeze S256x1024 squeezes_S1x256x1024_S256x1024
/-- Chunk `r` of the summed quarter. -/
abbrev vpV (r : Fin 16) : Memref sig .tc .vmem S256x1024 .bf16 :=
  ((Memref.whole cc0_scratch3).slice (chunkR r) (fun _ => rfl)).squeeze S256x1024 squeezes_S1x256x1024_S256x1024

/-- The chunks and halves lie in the input and in the result. -/
theorem x_inb (z : Fin 2) (q : Fin 4) (r : Fin 16) : ∀ a, (![0, 4096 * q.val + 256 * r.val, 1024 * z.val] : Fin 3 → Nat) a
    + S1x256x1024.size a ≤ S1x16384x2048.size a := by revert z q r; decide +kernel
theorem out_inb (q : Fin 4) (r : Fin 16) : ∀ a, (![4096 * q.val + 256 * r.val, 0] : Fin 2 → Nat) a
    + S256x1024.size a ≤ S16384x1024.size a := by revert q r; decide +kernel
theorem half_inb (q : Fin 4) (h : Fin 2) : ∀ a, (![4096 * q.val + 2048 * h.val, 0] : Fin 2 → Nat) a
    + S2048x1024.size a ≤ S16384x1024.size a := by revert q h; decide +kernel

/-- The rectangle of the input's chunk `r` of quarter `q`, in column half `z`. -/
abbrev xR (z : Fin 2) (q : Fin 4) (r : Fin 16) : Rect S1x16384x2048 :=
  Rect.unit (s := S1x16384x2048) ![0, 4096 * q.val + 256 * r.val, 1024 * z.val] S1x256x1024.size (x_inb z q r)
/-- The rectangle of the result's chunk `r` of quarter `q`. -/
abbrev outR (q : Fin 4) (r : Fin 16) : Rect S16384x1024 :=
  Rect.unit (s := S16384x1024) ![4096 * q.val + 256 * r.val, 0] S256x1024.size (out_inb q r)
/-- The rectangle of the result's half `h` of quarter `q`. -/
abbrev halfR (q : Fin 4) (h : Fin 2) : Rect S16384x1024 :=
  Rect.unit (s := S16384x1024) ![4096 * q.val + 2048 * h.val, 0] S2048x1024.size (half_inb q h)

/-- The input's chunk `r` of quarter `q`, in column half `z`. -/
abbrev xV (z : Fin 2) (q : Fin 4) (r : Fin 16) : Memref sig .tc .hbm S256x1024 .f32 :=
  ((Memref.whole main_arg0).slice (xR z q r) (fun _ => rfl)).squeeze S256x1024 squeezes_S1x256x1024_S256x1024
/-- The result's chunk `r` of quarter `q`. -/
abbrev outV (q : Fin 4) (r : Fin 16) : Memref sig .tc .hbm S256x1024 .bf16 :=
  (Memref.whole main_v1).slice (outR q r) (fun _ => rfl)
/-- The result's half `h` of quarter `q`. -/
abbrev halfV (q : Fin 4) (h : Fin 2) : Memref sig .tc .hbm S2048x1024 .bf16 :=
  (Memref.whole main_v1).slice (halfR q h) (fun _ => rfl)

/-- Semaphore `r` of an array of sixteen. -/
abbrev semAt (A : DmaSems sig S16) (r : Fin 16) : DmaSem sig :=
  ((A.slice (Rect.unit (s := S16) ![r.val] S1.size (sem16_inb r))).squeeze S_ squeezes_S1_S_).sem
/-- The semaphore of staging slot `b`. -/
abbrev fSem (b : Fin 2) : DmaSem sig :=
  ((cc0_scratch4.slice (Rect.unit (s := S2) ![b.val] S1.size (sem2_inb b))).squeeze S_ squeezes_S1_S_).sem

/-- Every view a copy moves is made of whole words. -/
theorem x_words (z : Fin 2) (q : Fin 4) (r : Fin 16) : (xV z q r).view.WordExact := (View.wordExact_bits rfl).reshape _ _
theorem vf_words (b : Fin 2) : (vfV b).view.WordExact := (View.wordExact_bits rfl).reshape _ _
theorem vs_words (r : Fin 16) : (vsV r).view.WordExact :=
  ((Memref.isWhole_whole cc0_scratch1).wordExact_slice rfl _ (chunk_words r)).reshape _ _
theorem rz_words (r : Fin 16) : (rzV r).view.WordExact :=
  ((Memref.isWhole_whole cc0_scratch2).wordExact_slice rfl _ (chunk_words r)).reshape _ _
theorem vp_words (r : Fin 16) : (vpV r).view.WordExact :=
  ((Memref.isWhole_whole cc0_scratch3).wordExact_slice rfl _ (chunk_words r)).reshape _ _
theorem outR_words (q : Fin 4) (r : Fin 16) : (outR q r).WholeWords (EltTy.packing .bf16) := by
  revert q r; decide +kernel
theorem out_words (q : Fin 4) (r : Fin 16) : (outV q r).view.WordExact :=
  (Memref.isWhole_whole main_v1).wordExact_slice rfl _ (outR_words q r)
theorem halfR_words (q : Fin 4) (h : Fin 2) : (halfR q h).WholeWords (EltTy.packing .bf16) := by
  revert q h; decide +kernel
theorem half_words (q : Fin 4) (h : Fin 2) : (halfV q h).view.WordExact :=
  (Memref.isWhole_whole main_v1).wordExact_slice rfl _ (halfR_words q h)

/-- Staging slot of chunk `r`. -/
def slotOf (r : Fin 16) : Fin 2 := ⟨r.val % 2, Nat.mod_lt _ (by decide)⟩

/-! ## The steps -/

/-- Start the load of chunk `r` of quarter `q` of the input's column half `z` into its staging slot. -/
abbrev loadX (z : Fin 2) (q : Fin 4) (r : Fin 16) (k : TProg F) : TProg F :=
  .op (.enqueueDma (xV z q r) (.here (vfV (slotOf r))) (.dma (fSem (slotOf r))) (x_words z q r) (vf_words (slotOf r))
    ⟨Or.inl rfl, trivial⟩) fun _ => k

/-- Start the load of the chunk after `r`, if there is one. -/
abbrev loadNext (z : Fin 2) (q : Fin 4) (r : Fin 16) (k : TProg F) : TProg F :=
  if hr : r.val + 1 < 16 then loadX z q ⟨r.val + 1, hr⟩ k else k

/-- Wait for the load of chunk `r`. -/
abbrev waitX (z : Fin 2) (q : Fin 4) (r : Fin 16) (k : TProg F) : TProg F :=
  .op (.waitDma2 (fSem (slotOf r)) (xV z q r) (vfV (slotOf r)) (x_words z q r) (vf_words (slotOf r))) fun _ => k

/-- The rounding of a chunk to send. -/
def sendVal (v : Vec F S1x256x1024 .f32) : FVec F S1x256x1024 .bf16 :=
  shapeCast S1x256x1024 (truncf .bf16 (shapeCast S256x1024 v shapeCasts_S1x256x1024_S256x1024) bitsLt_bf16_f32)
    shapeCasts_S256x1024_S1x256x1024

/-- A chunk's sum: the device's own block plus the partner's rounded block, rounded. -/
def sumVal (v : Vec F S1x256x1024 .f32) (w : Vec F S1x256x1024 .bf16) : FVec F S1x256x1024 .bf16 :=
  shapeCast S1x256x1024
    (truncf .bf16 (addf (shapeCast S256x1024 v shapeCasts_S1x256x1024_S256x1024)
      (extf .f32 (shapeCast S256x1024 w shapeCasts_S1x256x1024_S256x1024) bitsLt_bf16_f32)) bitsLt_bf16_f32)
    shapeCasts_S256x1024_S1x256x1024

/-- Load the staged chunk `r`. -/
abbrev readX (r : Fin 16) (k : Vec F S1x256x1024 .f32 → TProg F) : TProg F :=
  .op (.load (Memref.whole cc0_scratch0) (slotR (slotOf r)).toLoadRect (View.loadsAt_vmem h_S1x256x1024)) k

/-- Store the rounded chunk `r` into the buffer to send from; what the buffer held is loaded first and dropped. -/
abbrev storeZ (r : Fin 16) (v : FVec F S1x256x1024 .bf16) (k : TProg F) : TProg F :=
  .op (.load (Memref.whole cc0_scratch1) (chunkR r).toLoadRect (View.loadsAt_vmem h_S1x256x1024)) fun _ =>
  .op (.store (Memref.whole cc0_scratch1) (chunkR r) v Finset.univ
    (View.stores_vmem h_S1x256x1024 ((Memref.isWhole_whole cc0_scratch1).storeExact_slice rfl _ (chunk_packed r))
      (fun _ => rfl)) (.inl rfl)) fun _ => k

/-- Send chunk `r` to the partner `p`. -/
abbrev sendZ (p : Dev nD) (r : Fin 16) (k : TProg F) : TProg F :=
  .op (.enqueueDma (vsV r) (.remote (Dev.tc p) (rzV r) (.dma (semAt cc0_scratch6 r))) (.dma (semAt cc0_scratch7 r))
    (vs_words r) (rz_words r) ⟨⟨rfl, Or.inl rfl⟩, trivial⟩) fun _ => k

/-- Wait for the partner's chunk `r`. -/
abbrev waitZ (r : Fin 16) (k : TProg F) : TProg F :=
  .op (.waitDma2 (semAt cc0_scratch7 r) (vsV r) (rzV r) (vs_words r) (rz_words r)) fun _ => k

/-- Load the partner's chunk `r`. -/
abbrev readZ (r : Fin 16) (k : Vec F S1x256x1024 .bf16 → TProg F) : TProg F :=
  .op (.load (Memref.whole cc0_scratch2) (chunkR r).toLoadRect (View.loadsAt_vmem h_S1x256x1024)) k

/-- Store the summed chunk `r`; what the buffer held is loaded first and dropped. -/
abbrev storeP (r : Fin 16) (v : FVec F S1x256x1024 .bf16) (k : TProg F) : TProg F :=
  .op (.load (Memref.whole cc0_scratch3) (chunkR r).toLoadRect (View.loadsAt_vmem h_S1x256x1024)) fun _ =>
  .op (.store (Memref.whole cc0_scratch3) (chunkR r) v Finset.univ
    (View.stores_vmem h_S1x256x1024 ((Memref.isWhole_whole cc0_scratch3).storeExact_slice rfl _ (chunk_packed r))
      (fun _ => rfl)) (.inl rfl)) fun _ => k

/-- Send the summed chunk `r` of quarter `q` to device `p`'s result. -/
abbrev sendOut (p : Dev nD) (S R : DmaSems sig S16) (q : Fin 4) (r : Fin 16) (k : TProg F) : TProg F :=
  .op (.enqueueDma (vpV r) (.remote (Dev.tc p) (outV q r) (.dma (semAt S r))) (.dma (semAt R r))
    (vp_words r) (out_words q r) ⟨⟨rfl, Or.inl rfl⟩, trivial⟩) fun _ => k

/-- Start the copy of the summed chunk `r` into the device's own result. -/
abbrev copyOut (q : Fin 4) (r : Fin 16) (k : TProg F) : TProg F :=
  .op (.enqueueDma (vpV r) (.here (outV q r)) (.dma (semAt cc0_scratch5 r)) (vp_words r) (out_words q r)
    ⟨Or.inl rfl, trivial⟩) fun _ => k

/-- Wait, on an array of semaphores, for chunk `r` of quarter `q` of the result to land. -/
abbrev waitOut (R : DmaSems sig S16) (q : Fin 4) (r : Fin 16) (k : TProg F) : TProg F :=
  .op (.waitDma2 (semAt R r) (vpV r) (outV q r) (vp_words r) (out_words q r)) fun _ => k

/-- Wait until chunk `r`'s copy out of the summed quarter has been sent. -/
abbrev waitSent (S : DmaSems sig S16) (q : Fin 4) (r : Fin 16) (k : TProg F) : TProg F :=
  .op (.waitDma2 (semAt S r) (outV q r) (vpV r) (out_words q r) (vp_words r)) fun _ => k

/-- Wait until chunk `r` has been sent to the partner. -/
abbrev waitSentZ (r : Fin 16) (k : TProg F) : TProg F :=
  .op (.waitDma2 (semAt cc0_scratch6 r) (rzV r) (vsV r) (rz_words r) (vs_words r)) fun _ => k

/-- Forward half `h` of quarter `q` of the result to device `p`. -/
abbrev forward (p : Dev nD) (S R : DmaSem sig) (q : Fin 4) (h : Fin 2) (k : TProg F) : TProg F :=
  .op (.enqueueDma (halfV q h) (.remote (Dev.tc p) (halfV q h) (.dma S)) (.dma R) (half_words q h) (half_words q h)
    ⟨⟨rfl, Or.inl rfl⟩, trivial⟩) fun _ => k

/-- Wait on a semaphore for half `h` of quarter `q`. -/
abbrev waitHalf (R : DmaSem sig) (q : Fin 4) (h : Fin 2) (k : TProg F) : TProg F :=
  .op (.waitDma2 R (halfV q h) (halfV q h) (half_words q h) (half_words q h)) fun _ => k

/-! ## The body -/

/-- Every chunk in order. -/
abbrev chunks : List (Fin 16) := [0, 1, 2, 3, 4, 5, 6, 7, 8, 9, 10, 11, 12, 13, 14, 15]
/-- Every chunk of half a quarter in order. -/
abbrev halfChunks : List (Fin 8) := [0, 1, 2, 3, 4, 5, 6, 7]

/-- Chunk `r` of the first phase: load the next, wait for this one, round it and send it to the partner. -/
abbrev stepA (d : Dev nD) (r : Fin 16) (k : TProg F) : TProg F :=
  loadNext (zOf (zp d)) (qOf d) r <|
  waitX (zOf (zp d)) (qOf d) r <|
  readX r fun v => storeZ r (sendVal v) <|
  sendZ (zp d) r k

/-- Chunk `r` of the second phase: load the next, wait for this one and for the partner's, sum them, and start the
    sum's copies to both neighbours and into the device's own result. -/
abbrev stepB (d : Dev nD) (r : Fin 16) (k : TProg F) : TProg F :=
  loadNext (zOf d) (qOf d) r <|
  waitX (zOf d) (qOf d) r <|
  waitZ r <|
  readX r fun v => readZ r fun w => storeP r (sumVal v w) <|
  sendOut (xn d) cc0_scratch8 cc0_scratch9 (qOf d) r <|
  sendOut (yn d) cc0_scratch10 cc0_scratch11 (qOf d) r <|
  copyOut (qOf d) r k

/-- The waits that let chunk `r`'s buffers go. -/
abbrev stepE (d : Dev nD) (r : Fin 16) (k : TProg F) : TProg F :=
  waitOut cc0_scratch5 (qOf d) r <|
  waitSentZ r <|
  waitSent cc0_scratch8 (qOf d) r <|
  waitSent cc0_scratch10 (qOf d) r k

/-- The waits for the chunks of half `h` of quarter `q`. -/
abbrev waitChunks (R : DmaSems sig S16) (q : Fin 4) (h : Fin 2) (k : TProg F) : TProg F :=
  halfChunks.foldr (fun j k => waitOut R q (chunkOf h j) k) k

/-- Forwarding, and the waits for everything that lands. -/
abbrev gatherP (d : Dev nD) (k : TProg F) : TProg F :=
  waitChunks cc0_scratch11 (qOf (yn d)) (hx d) <|
  forward (xn d) cc0_scratch12.sem cc0_scratch13.sem (qOf (yn d)) (hx d) <|
  waitChunks cc0_scratch9 (qOf (xn d)) (hy d) <|
  forward (yn d) cc0_scratch14.sem cc0_scratch15.sem (qOf (xn d)) (hy d) <|
  waitChunks cc0_scratch11 (qOf (yn d)) (hy d) <|
  waitChunks cc0_scratch9 (qOf (xn d)) (hx d) <|
  waitHalf cc0_scratch13.sem (qOf (xn (yn d))) (hy d) <|
  waitHalf cc0_scratch15.sem (qOf (xn (yn d))) (hx d) k

/-- The runtime's barrier semaphore. -/
abbrev barSem : Sem sig := (SemArray.scalar (sig.barrier 0 rfl) : Sems sig S_).sem

/-- Signal device `p`'s barrier semaphore once. -/
abbrev signalB (p : Dev nD) (k : TProg F) : TProg F :=
  .op (.semSignal (p, .tc) barSem (1#32 : BitVec 32).toInt) fun _ => k

/-- The handshake with the three neighbours. -/
abbrev handshake (d : Dev nD) (k : TProg F) : TProg F :=
  signalB (zp d) <| signalB (xn d) <| signalB (yn d) <|
  .op (.semWait barSem (3#32 : BitVec 32).toInt) fun _ => k

/-- The body on device `d`. -/
abbrev steps (d : Dev nD) : TProg F :=
  handshake d <|
  loadX (zOf (zp d)) (qOf d) 0 <|
  chunks.foldr (stepA d) <|
  loadX (zOf d) (qOf d) 0 <|
  chunks.foldr (stepB d) <|
  gatherP d <|
  chunks.foldr (stepE d) <|
  waitHalf cc0_scratch12.sem (qOf (yn d)) (hx d) <|
  waitHalf cc0_scratch14.sem (qOf (xn d)) (hy d) <|
  .ret ⟨⟩

end Cert.Gather

end
-- ==== Proof.Places.lean ====
/-
# Where the chunks lie, and what they hold

The sixteen chunks tile the chunk buffers, the halves of the quarters tile the result, the chunks of a half tile the
half. Every value the kernel moves is named here from the input: the rounded block a device sends to its partner, its
chunk of the sum, and the whole result.
-/
module

public import proofs.«01_k».proof.Proof.Steps
public import Idealize.ShloMosaic.Lib.Pipeline.Launch
public import Idealize.ShloMosaic.Lib.Pipeline.Value

@[expose] public section

noncomputable section

namespace Cert.Gather

open Cert.KernelIdeal Cert.KernelIdeal.Gen
open Idealize.ShloMosaic Idealize.ShloMosaic.TcCoe
open Idealize.SL Idealize.SL.RA Idealize.SL.BI Idealize.SL.Sem
open scoped Idealize.SL.BI

variable {F : FTy → Type} [FloatOps F]

/-! ## The neighbours -/

/-- Crossing an axis twice comes back; the crossings commute; a neighbour's quarter, part and halves. -/
@[simp] theorem zp_zp (d : Dev nD) : zp (zp d) = d := by revert d; decide
@[simp] theorem xn_xn (d : Dev nD) : xn (xn d) = d := by revert d; decide
@[simp] theorem yn_yn (d : Dev nD) : yn (yn d) = d := by revert d; decide
theorem yn_xn (d : Dev nD) : yn (xn d) = xn (yn d) := by revert d; decide
@[simp] theorem qOf_zp (d : Dev nD) : qOf (zp d) = qOf d := by revert d; decide
@[simp] theorem zOf_xn (d : Dev nD) : zOf (xn d) = zOf d := by revert d; decide
@[simp] theorem zOf_yn (d : Dev nD) : zOf (yn d) = zOf d := by revert d; decide
@[simp] theorem hx_xn (d : Dev nD) : hx (xn d) = hy d := by revert d; decide
@[simp] theorem hx_yn (d : Dev nD) : hx (yn d) = hy d := by revert d; decide
@[simp] theorem hy_xn (d : Dev nD) : hy (xn d) = hx d := by revert d; decide
@[simp] theorem hy_yn (d : Dev nD) : hy (yn d) = hx d := by revert d; decide

/-- The device that sums quarter `q` for the column half `z`. -/
def devAt (z : Fin 2) (q : Fin 4) : Dev nD := ⟨2 * q.val + z.val, by revert z q; decide⟩

/-- A device is the one at its own part and quarter. -/
@[simp] theorem devAt_self (d : Dev nD) : devAt (zOf d) (qOf d) = d := by revert d; decide
@[simp] theorem zOf_devAt (z : Fin 2) (q : Fin 4) : zOf (devAt z q) = z := by revert z q; decide
@[simp] theorem qOf_devAt (z : Fin 2) (q : Fin 4) : qOf (devAt z q) = q := by revert z q; decide

/-! ## The chunks' element sets -/

/-- Each view's elements are its rectangle's. -/
@[simp] theorem vs_set (r : Fin 16) : (vsV r).view.set = (chunkR r).set :=
  (View.set_reshape _ _).trans (View.set_slice_whole _ _)
@[simp] theorem rz_set (r : Fin 16) : (rzV r).view.set = (chunkR r).set :=
  (View.set_reshape _ _).trans (View.set_slice_whole _ _)
@[simp] theorem vp_set (r : Fin 16) : (vpV r).view.set = (chunkR r).set :=
  (View.set_reshape _ _).trans (View.set_slice_whole _ _)
@[simp] theorem vf_set (b : Fin 2) : (vfV b).view.set = (slotR b).set :=
  (View.set_reshape _ _).trans (View.set_slice_whole _ _)
@[simp] theorem out_set (q : Fin 4) (r : Fin 16) : (outV q r).view.set = (outR q r).set := View.set_slice_whole _ _
@[simp] theorem half_set (q : Fin 4) (h : Fin 2) : (halfV q h).view.set = (halfR q h).set := View.set_slice_whole _ _

/-- An index lies in chunk `r` when its first coordinate is `r`; -/
theorem mem_chunk (r : Fin 16) (i : S16x256x1024.Idx) : i ∈ (chunkR r).set ↔ (i 0).val = r.val := by
  rw [Rect.mem_set_unit]
  constructor
  · intro h; have := h 0; simp at this; omega
  · intro h a
    fin_cases a
    · simp; omega
    · have := (i 1).isLt; simp at this ⊢; exact this
    · have := (i 2).isLt; simp at this ⊢; exact this

/-- in slot `b` when its first coordinate is `b`; -/
theorem mem_slot (b : Fin 2) (i : S2x256x1024.Idx) : i ∈ (slotR b).set ↔ (i 0).val = b.val := by
  rw [Rect.mem_set_unit]
  constructor
  · intro h; have := h 0; simp at this; omega
  · intro h a
    fin_cases a
    · simp; omega
    · have := (i 1).isLt; simp at this ⊢; exact this
    · have := (i 2).isLt; simp at this ⊢; exact this

/-- in a chunk of the result when its row is one of the chunk's; -/
theorem mem_out (q : Fin 4) (r : Fin 16) (i : S16384x1024.Idx) :
    i ∈ (outR q r).set ↔ 4096 * q.val + 256 * r.val ≤ (i 0).val ∧ (i 0).val < 4096 * q.val + 256 * r.val + 256 := by
  rw [Rect.mem_set_unit]
  constructor
  · intro h; have := h 0; simpa using this
  · intro h a
    fin_cases a
    · simpa using h
    · have := (i 1).isLt; simp at this ⊢; exact this

/-- in a half of a quarter when its row is one of the half's. -/
theorem mem_half (q : Fin 4) (b : Fin 2) (i : S16384x1024.Idx) :
    i ∈ (halfR q b).set ↔ 4096 * q.val + 2048 * b.val ≤ (i 0).val ∧ (i 0).val < 4096 * q.val + 2048 * b.val + 2048 := by
  rw [Rect.mem_set_unit]
  constructor
  · intro h; have := h 0; simpa using this
  · intro h a
    fin_cases a
    · simpa using h
    · have := (i 1).isLt; simp at this ⊢; exact this

/-- The sixteen chunks make up a chunk buffer, -/
theorem chunks_cover : (Finset.univ : Finset (Fin 16)).biUnion (fun r => (chunkR r).set) = Finset.univ := by
  ext i
  simp only [Finset.mem_biUnion, Finset.mem_univ, true_and, iff_true]
  exact ⟨i 0, (mem_chunk _ i).2 rfl⟩

/-- and no two overlap. -/
theorem chunks_disjoint (r r' : Fin 16) (h : r ≠ r') : Disjoint (chunkR r).set (chunkR r').set := by
  rw [Finset.disjoint_left]
  intro i hi hi'
  exact h (Fin.ext (((mem_chunk r i).1 hi).symm.trans ((mem_chunk r' i).1 hi')))

/-- The two slots make up the staging buffer, -/
theorem slots_cover : (Finset.univ : Finset (Fin 2)).biUnion (fun b => (slotR b).set) = Finset.univ := by
  ext i
  simp only [Finset.mem_biUnion, Finset.mem_univ, true_and, iff_true]
  exact ⟨i 0, (mem_slot _ i).2 rfl⟩

/-- and do not overlap. -/
theorem slots_disjoint (b b' : Fin 2) (h : b ≠ b') : Disjoint (slotR b).set (slotR b').set := by
  rw [Finset.disjoint_left]
  intro i hi hi'
  exact h (Fin.ext (((mem_slot b i).1 hi).symm.trans ((mem_slot b' i).1 hi')))

/-- The eight chunks of a half of a quarter make up the half. -/
theorem half_cover (q : Fin 4) (h : Fin 2) :
    (Finset.univ : Finset (Fin 8)).biUnion (fun j => (outR q (chunkOf h j)).set) = (halfR q h).set := by
  ext i
  simp only [Finset.mem_biUnion, Finset.mem_univ, true_and, mem_out, mem_half, chunkOf]
  constructor
  · rintro ⟨j, hj⟩; have := j.isLt; omega
  · intro hi
    exact ⟨⟨((i 0).val - (4096 * q.val + 2048 * h.val)) / 256, by omega⟩, by dsimp only; omega⟩

/-- No two chunks of a quarter of the result overlap. -/
theorem outs_disjoint (q : Fin 4) (r r' : Fin 16) (h : r ≠ r') : Disjoint (outR q r).set (outR q r').set := by
  rw [Finset.disjoint_left]
  intro i hi hi'
  rw [mem_out] at hi hi'
  exact h (Fin.ext (by omega))

/-- The halves of the quarters make up the result. -/
theorem halves_cover :
    (Finset.univ : Finset (Fin 4 × Fin 2)).biUnion (fun p => (halfR p.1 p.2).set) = Finset.univ := by
  ext i
  simp only [Finset.mem_biUnion, Finset.mem_univ, true_and, iff_true]
  have hi : (i 0).val < 16384 := (i 0).isLt
  exact ⟨(⟨(i 0).val / 4096, by omega⟩, ⟨(i 0).val % 4096 / 2048, by omega⟩), (mem_half _ _ i).2 (by dsimp only; omega)⟩

/-- No two halves of quarters overlap. -/
theorem halves_disjoint (p p' : Fin 4 × Fin 2) (h : p ≠ p') : Disjoint (halfR p.1 p.2).set (halfR p'.1 p'.2).set := by
  rw [Finset.disjoint_left]
  intro i hi hi'
  rw [mem_half] at hi hi'
  have h1 := p.2.isLt
  have h2 := p'.2.isLt
  exact h (Prod.ext (Fin.ext (by omega)) (Fin.ext (by omega)))

/-! ## Contents made of chunks -/

/-- Sixteen chunks as one buffer. -/
def stack {α : Type} (g : Fin 16 → S256x1024.Idx → α) : S16x256x1024.Idx → α := fun i =>
  shapeCast S1x256x1024 (g (i 0)) shapeCasts_S256x1024_S1x256x1024
    (fun a => match a with
      | ⟨0, _⟩ => ⟨0, Nat.one_pos⟩
      | ⟨1, _⟩ => i 1
      | ⟨2, _⟩ => i 2)

/-- A chunk of the stacked buffer, loaded, is the chunk. -/
theorem stack_emb {α : Type} (g : Fin 16 → S256x1024.Idx → α) (r : Fin 16) (y : S1x256x1024.Idx) :
    stack g ((chunkR r).emb y) = shapeCast S1x256x1024 (g r) shapeCasts_S256x1024_S1x256x1024 y := by
  have e0 : ((chunkR r).emb y) 0 = r := Fin.ext (by
    have := (y 0).isLt
    simp at this
    simp [this])
  unfold stack
  rw [e0]
  refine congrArg (shapeCast S1x256x1024 (g r) shapeCasts_S256x1024_S1x256x1024) (funext fun a => ?_)
  match a with
  | ⟨0, _⟩ => exact Fin.ext (by have := (y 0).isLt; simp at this; exact this.symm)
  | ⟨1, _⟩ => exact Fin.ext (by simp)
  | ⟨2, _⟩ => exact Fin.ext (by simp)

/-- Quarters and chunks as the whole result. -/
def quilt {α : Type} (g : Fin 4 → Fin 16 → S256x1024.Idx → α) : S16384x1024.Idx → α := fun i =>
  g ⟨(i 0).val / 4096, by have : (i 0).val < 16384 := (i 0).isLt; omega⟩
    ⟨(i 0).val % 4096 / 256, by omega⟩
    (fun a => match a with
      | ⟨0, _⟩ => ⟨(i 0).val % 256, Nat.mod_lt _ (by decide)⟩
      | ⟨1, _⟩ => i 1)

/-- The element of the whole result at an index of a chunk is the chunk's. -/
theorem quilt_emb {α : Type} (g : Fin 4 → Fin 16 → S256x1024.Idx → α) (q : Fin 4) (r : Fin 16) (y : S256x1024.Idx) :
    quilt g ((outR q r).emb y) = g q r y := by
  have e : (((outR q r).emb y) 0).val = 4096 * q.val + 256 * r.val + (y 0).val := by simp
  have hy : (y 0).val < 256 := (y 0).isLt
  unfold quilt
  congr 1
  · exact Fin.ext (by dsimp only; omega)
  · exact Fin.ext (by dsimp only; omega)
  · funext a
    match a with
    | ⟨0, _⟩ => exact Fin.ext (show _ % 256 = (y 0).val by dsimp only; omega)
    | ⟨1, _⟩ => exact Fin.ext (by simp)

/-! ## The values -/

/-- The memory the kernel starts from. -/
abbrev Mem (F : FTy → Type) : Type := (ℓ : Loc nD τ sig) → Buf (Elt F) ℓ

variable (m : Mem F)

/-- Chunk `r` of quarter `q` of column half `z` of device `d`'s input. -/
def xin (d : Dev nD) (z : Fin 2) (q : Fin 4) (r : Fin 16) : Vec F S256x1024 .f32 :=
  (xV z q r).view.read (Elt F) (m ((d.tc : Thread nD τ).loc main_arg0))

/-- The rounded chunk `r` device `d` sends to its partner. -/
def sent (d : Dev nD) (r : Fin 16) : FVec F S256x1024 .bf16 :=
  truncf .bf16 (xin m d (zOf (zp d)) (qOf d) r) bitsLt_bf16_f32

/-- Chunk `r` of the quarter device `d` sums. -/
def summed (d : Dev nD) (r : Fin 16) : FVec F S256x1024 .bf16 :=
  truncf .bf16 (addf (xin m d (zOf d) (qOf d) r) (extf .f32 (sent m (zp d) r) bitsLt_bf16_f32)) bitsLt_bf16_f32

/-- What device `d`'s send buffer holds in the end. -/
def sentBuf (d : Dev nD) : S16x256x1024.Idx → Elt F .bf16 := stack (sent m d)
/-- What device `d`'s summed quarter holds in the end. -/
def partBuf (d : Dev nD) : S16x256x1024.Idx → Elt F .bf16 := stack (summed m d)
/-- The result of the devices of column half `z`. -/
def result (z : Fin 2) : S16384x1024.Idx → Elt F .bf16 := quilt fun q r => summed m (devAt z q) r

/-- Chunk `r` loaded from the send buffer is the chunk sent; -/
theorem sentBuf_load (d : Dev nD) (r : Fin 16) :
    (Memref.whole cc0_scratch1 : Memref sig .tc .vmem S16x256x1024 .bf16).view.readAt (Elt F) (chunkR r).toLoadRect (sentBuf m d)
      = shapeCast S1x256x1024 (sent m d r) shapeCasts_S256x1024_S1x256x1024 :=
  funext fun y => stack_emb (sent m d) r y

/-- from the receive buffer, the chunk received; -/
theorem rz_load (d : Dev nD) (r : Fin 16) :
    (Memref.whole cc0_scratch2 : Memref sig .tc .vmem S16x256x1024 .bf16).view.readAt (Elt F) (chunkR r).toLoadRect (sentBuf m d)
      = shapeCast S1x256x1024 (sent m d r) shapeCasts_S256x1024_S1x256x1024 :=
  funext fun y => stack_emb (sent m d) r y

/-- from the summed quarter, the chunk summed. -/
theorem partBuf_load (d : Dev nD) (r : Fin 16) :
    (Memref.whole cc0_scratch3 : Memref sig .tc .vmem S16x256x1024 .bf16).view.readAt (Elt F) (chunkR r).toLoadRect (partBuf m d)
      = shapeCast S1x256x1024 (summed m d r) shapeCasts_S256x1024_S1x256x1024 :=
  funext fun y => stack_emb (summed m d) r y

/-- The same chunks, as the copies read them: -/
theorem vs_read (d : Dev nD) (r : Fin 16) : (vsV r).view.read (Elt F) (sentBuf m d) = sent m d r := by
  refine Eq.trans (Memref.read_squeeze_slice (Memref.whole cc0_scratch1) (chunkR r) (fun _ => rfl)
    squeezes_S1x256x1024_S256x1024 shapeCasts_S1x256x1024_S256x1024 (sentBuf m d)) ?_
  rw [sentBuf_load]; exact shapeCast_shapeCast _ _ _

/-- received, -/
theorem rz_read (d : Dev nD) (r : Fin 16) : (rzV r).view.read (Elt F) (sentBuf m d) = sent m d r := by
  refine Eq.trans (Memref.read_squeeze_slice (Memref.whole cc0_scratch2) (chunkR r) (fun _ => rfl)
    squeezes_S1x256x1024_S256x1024 shapeCasts_S1x256x1024_S256x1024 (sentBuf m d)) ?_
  rw [rz_load]; exact shapeCast_shapeCast _ _ _

/-- summed, -/
theorem vp_read (d : Dev nD) (r : Fin 16) : (vpV r).view.read (Elt F) (partBuf m d) = summed m d r := by
  refine Eq.trans (Memref.read_squeeze_slice (Memref.whole cc0_scratch3) (chunkR r) (fun _ => rfl)
    squeezes_S1x256x1024_S256x1024 shapeCasts_S1x256x1024_S256x1024 (partBuf m d)) ?_
  rw [partBuf_load]; exact shapeCast_shapeCast _ _ _

/-- and in the result. -/
theorem out_read (z : Fin 2) (q : Fin 4) (r : Fin 16) :
    (outV q r).view.read (Elt F) (result m z) = summed m (devAt z q) r :=
  funext fun y => quilt_emb (fun q r => summed m (devAt z q) r) q r y

/-- Rounding a loaded chunk to send, as a function of the chunk. -/
theorem sendVal_eq (v : Vec F S1x256x1024 .f32) (x : Vec F S256x1024 .f32)
    (h : shapeCast S256x1024 v shapeCasts_S1x256x1024_S256x1024 = x) :
    sendVal v = shapeCast S1x256x1024 (truncf .bf16 x bitsLt_bf16_f32) shapeCasts_S256x1024_S1x256x1024 := by
  subst h; rfl

end Cert.Gather

end
-- ==== Proof.Plan.lean ====
/-
# The semaphores' schedule

Every semaphore another device credits, or whose copy another device receives, is one cell of the rounds library with
one round. The barrier cell of a device has three duties of one unit, one from each neighbour, each handing over the
places the device will write on that neighbour. The two cells of a remote copy have one duty each: the sending cell
hands back the copied chunk, the receiving cell hands over the place written, with what it then holds.
-/
module

public import proofs.«01_k».proof.Proof.Places
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the kernel's own rounds, the local copies' counters -/

/-- The state of the rounds of the kernel's cells, each with up to three duties a round. -/
abbrev UB : Type := URounds (GSem nD τ sig) (Fin 3)
/-- With the counters of the local copies, -/
abbrev UX : Type := UB × Counters
/-- and with the launch's own rounds. -/
abbrev UU : Type := UR sig nD τ × UX

local notation "𝕄" => MT nD τ sig Unit (Elt F) ℕ UU ℕ

/-- The launch's rounds. -/
abbrev EP : Emb (UR sig nD τ) (MT nD τ sig Unit (Elt F) ℕ UU ℕ) := embL
/-- The kernel's own rounds. -/
abbrev ER : Emb UB (MT nD τ sig Unit (Elt F) ℕ UU ℕ) :=
  ((Emb.inl : Emb UB UX).trans (Emb.inr : Emb UX UU)).trans
    (uEmb (nD := nD) (τ := τ) (sig := sig) (Ix := Unit) (Val := Elt F) (Name := ℕ) (U := UU) (Lvl := ℕ)).toEmb
/-- The local copies' counters. -/
abbrev EC : UEmb Counters (MT nD τ sig Unit (Elt F) ℕ UU ℕ) := countersEmb

theorem ER_landsIn_holds : (ER (F := F)).LandsIn (upEmb : UEmb _ (MT nD τ sig Unit (Elt F) ℕ UU ℕ)) := inferInstance
theorem EC_landsIn_holds : (EC (F := F)).LandsIn (upEmb : UEmb _ (MT nD τ sig Unit (Elt F) ℕ UU ℕ)) := inferInstance

/-! ## The cells -/

/-- The kinds of cell: the barrier, the six arrays of sixteen chunk semaphores, the four forwarding semaphores. -/
abbrev CK : Type := Option ((Fin 6 × Fin 16) ⊕ Fin 4)

/-- The barrier, -/
abbrev bar : CK := none
/-- semaphore `r` of array `a`, -/
abbrev ck (a : Fin 6) (r : Fin 16) : CK := some (.inl (a, r))
/-- forwarding semaphore `a`. -/
abbrev fw (a : Fin 4) : CK := some (.inr a)

/-- The six arrays: sent to and received from the partner, then along x, then along y. -/
abbrev arr : Fin 6 → DmaSems sig S16 :=
  ![cc0_scratch6, cc0_scratch7, cc0_scratch8, cc0_scratch9, cc0_scratch10, cc0_scratch11]
/-- The four forwarding semaphores: sent and received along x, then along y. -/
abbrev far : Fin 4 → DmaSem sig := ![cc0_scratch12.sem, cc0_scratch13.sem, cc0_scratch14.sem, cc0_scratch15.sem]

/-- The semaphore a kind of cell is. -/
abbrev csem : CK → SemLoc sig
  | none => .reg barSem
  | some (.inl (a, r)) => .dma (semAt (arr a) r)
  | some (.inr a) => .dma (far a)

/-- The cell of a kind on a device. -/
abbrev kcell (p : Dev nD × CK) : GSem nD τ sig := ((p.1.tc : Thread nD τ), csem p.2)

/-- The kind a semaphore has, if it is one of the cells. -/
def kindOf : SemLoc sig → Option CK
  | .reg _ => some bar
  | .dma s =>
    if h : s.val < 18 then none
    else if h' : s.val < 114 then some (ck ⟨(s.val - 18) / 16, by omega⟩ ⟨(s.val - 18) % 16, by omega⟩)
    else if h'' : s.val < 118 then some (fw ⟨s.val - 114, by omega⟩) else none

/-- The kind of a cell's semaphore is the cell's. -/
theorem kindOf_csem (k : CK) : kindOf (csem k) = some k := by
  revert k; decide +kernel

/-- Different kinds are different semaphores. -/
theorem csem_injective : Function.Injective csem := fun k k' h =>
  Option.some.inj ((kindOf_csem k).symm.trans ((congrArg kindOf h).trans (kindOf_csem k')))

/-- Different cells are different semaphores. -/
theorem kcell_injective : Function.Injective kcell := fun p p' h => by
  obtain ⟨c, k⟩ := p
  obtain ⟨c', k'⟩ := p'
  have h1 : c = c' := congrArg (fun g : GSem nD τ sig => g.1.1) h
  have h2 : csem k = csem k' := congrArg Prod.snd h
  exact Prod.ext h1 (csem_injective h2)

/-! ## Credits -/

/-- The credit of a chunk, and of a half of a quarter. -/
@[irreducible] def NC : ℕ := (vsV 0).view.dmaCredit
@[irreducible] def NH : ℕ := (halfV 0 0).view.dmaCredit
/-- The credit of a chunk of the input. -/
@[irreducible] def NX : ℕ := (vfV 0).view.dmaCredit

/-- The credits are positive. -/
theorem NC_pos : 0 < NC := by unfold NC; exact View.dmaCredit_pos _ (by decide)
theorem NH_pos : 0 < NH := by unfold NH; exact View.dmaCredit_pos _ (by decide)
theorem NX_pos : 0 < NX := by unfold NX; exact View.dmaCredit_pos _ (by decide)

/-- The credit of each view a copy moves. -/
theorem vs_credit (r : Fin 16) : (vsV r).view.dmaCredit = NC := by unfold NC; rfl
theorem rz_credit (r : Fin 16) : (rzV r).view.dmaCredit = NC := by unfold NC; rfl
theorem vp_credit (r : Fin 16) : (vpV r).view.dmaCredit = NC := by unfold NC; rfl
theorem out_credit (q : Fin 4) (r : Fin 16) : (outV q r).view.dmaCredit = NC := by unfold NC; rfl
theorem half_credit (q : Fin 4) (h : Fin 2) : (halfV q h).view.dmaCredit = NH := by unfold NH; rfl
theorem vf_credit (b : Fin 2) : (vfV b).view.dmaCredit = NX := by unfold NX; rfl

/-! ## Holding a place -/

/-- Device `c` holds chunk `r` of the buffer to send from at contents `f`; -/
abbrev vsP (c : Dev nD) (r : Fin 16) (f : S16x256x1024.Idx → Elt F .bf16) : sProp 𝕄 :=
  (vsV r).view.loc (c.tc : Thread nD τ) ↦[(vsV r).view.set]{fullShare} f
/-- chunk `r` of the buffer received into; -/
abbrev rzP (c : Dev nD) (r : Fin 16) (f : S16x256x1024.Idx → Elt F .bf16) : sProp 𝕄 :=
  (rzV r).view.loc (c.tc : Thread nD τ) ↦[(rzV r).view.set]{fullShare} f
/-- chunk `r` of the summed quarter, at share `q`; -/
abbrev vpP (c : Dev nD) (q : PosShare TreeShare) (r : Fin 16) (f : S16x256x1024.Idx → Elt F .bf16) : sProp 𝕄 :=
  (vpV r).view.loc (c.tc : Thread nD τ) ↦[(vpV r).view.set]{q} f
/-- staging slot `b`; -/
abbrev vfP (c : Dev nD) (b : Fin 2) (f : S2x256x1024.Idx → Elt F .f32) : sProp 𝕄 :=
  (vfV b).view.loc (c.tc : Thread nD τ) ↦[(vfV b).view.set]{fullShare} f
/-- chunk `r` of quarter `q` of the result; -/
abbrev outP (c : Dev nD) (q : Fin 4) (r : Fin 16) (f : S16384x1024.Idx → Elt F .bf16) : sProp 𝕄 :=
  (outV q r).view.loc (c.tc : Thread nD τ) ↦[(outV q r).view.set]{fullShare} f
/-- half `h` of quarter `q` of the result. -/
abbrev halfP (c : Dev nD) (q : Fin 4) (h : Fin 2) (f : S16384x1024.Idx → Elt F .bf16) : sProp 𝕄 :=
  (halfV q h).view.loc (c.tc : Thread nD τ) ↦[(halfV q h).view.set]{fullShare} f

/-- The summed quarter's chunks are read by three copies at once: along x, along y, and into the own result. -/
abbrev shx : PosShare TreeShare := fullShare.left
/-- The share read by the copy along y, -/
abbrev shy : PosShare TreeShare := fullShare.right.left
/-- and by the copy into the own result. -/
abbrev sho : PosShare TreeShare := fullShare.right.right

/-- The whole buffer to receive into, chunk by chunk, whatever it holds. -/
def rzAny (c : Dev nD) : sProp (MT nD τ sig Unit (Elt F) ℕ UU ℕ) := bigSep Finset.univ fun r : Fin 16 => iprop(∃ f, rzP c r f)
/-- A quarter of the result, chunk by chunk, whatever it holds. -/
def outAny (c : Dev nD) (q : Fin 4) : sProp (MT nD τ sig Unit (Elt F) ℕ UU ℕ) := bigSep Finset.univ fun r : Fin 16 => iprop(∃ f, outP c q r f)

/-! ## The schedule -/

variable (m : Mem F)

/-- What a duty of a cell of device `c` hands over. -/
def pay (c : Dev nD) : CK → Fin 3 → sProp (MT nD τ sig Unit (Elt F) ℕ UU ℕ)
  | none, 0 => rzAny (zp c)
  | none, 1 => iprop(outAny (xn c) (qOf c) ∗ ∃ f, halfP (xn c) (qOf (yn c)) (hx c) f)
  | none, 2 => iprop(outAny (yn c) (qOf c) ∗ ∃ f, halfP (yn c) (qOf (xn c)) (hy c) f)
  | some (.inl (0, r)), _ => vsP c r (sentBuf m c)
  | some (.inl (1, r)), _ => rzP c r (sentBuf m (zp c))
  | some (.inl (2, r)), _ => vpP c shx r (partBuf m c)
  | some (.inl (3, r)), _ => outP c (qOf (xn c)) r (result m (zOf c))
  | some (.inl (4, r)), _ => vpP c shy r (partBuf m c)
  | some (.inl (5, r)), _ => outP c (qOf (yn c)) r (result m (zOf c))
  | some (.inr 0), _ => halfP c (qOf (yn c)) (hx c) (result m (zOf c))
  | some (.inr 1), _ => halfP c (qOf (xn (yn c))) (hy c) (result m (zOf c))
  | some (.inr 2), _ => halfP c (qOf (xn c)) (hy c) (result m (zOf c))
  | some (.inr 3), _ => halfP c (qOf (xn (yn c))) (hx c) (result m (zOf c))

instance rzAny_storable (c : Dev nD) : BI.Storable (upEmb : UEmb _ 𝕄) (rzAny (F := F) c) := by unfold rzAny; infer_instance
instance outAny_storable (c : Dev nD) (q : Fin 4) : BI.Storable (upEmb : UEmb _ 𝕄) (outAny (F := F) c q) := by unfold outAny; infer_instance

instance pay_storable (c : Dev nD) (k : CK) (d : Fin 3) : BI.Storable (upEmb : UEmb _ 𝕄) (pay m c k d) := by
  obtain _ | ⟨a, r⟩ | a := k
  · fin_cases d <;> (dsimp only [pay]; infer_instance)
  · fin_cases a <;> (dsimp only [pay]; infer_instance)
  · fin_cases a <;> (dsimp only [pay]; infer_instance)

/-- The duties of a cell's round. -/
def dut : CK → Finset (Fin 3)
  | none => Finset.univ
  | some _ => {0}

/-- The units of a duty. -/
def amt : CK → ℕ
  | none => 1
  | some (.inl _) => NC
  | some (.inr _) => NH

/-- Every duty has units. -/
theorem amt_pos (k : CK) : 0 < amt k := by
  obtain _ | _ | _ := k
  · exact Nat.one_pos
  · show 0 < NC; exact NC_pos
  · show 0 < NH; exact NH_pos

/-- The kernel's schedule. -/
def sched : Rounds.Schedule (GSem nD τ sig) (Fin 3) 𝕄 where
  duties g r := if r = 0 ∧ g.1.2 = .tc then (kindOf g.2).elim ∅ dut else ∅
  unitless _ := False
  amount g _ _ := (kindOf g.2).elim 1 amt
  payload g _ d := (kindOf g.2).elim iprop(emp) fun k => pay m g.1.1 k d
  amount_pos g _ _ _ := by
    cases kindOf g.2
    exacts [Nat.one_pos, amt_pos _]

instance sched_payload_storable (g : GSem nD τ sig) (r : ℕ) (d : Fin 3) :
    BI.Storable (upEmb : UEmb _ 𝕄) ((sched m).payload g r d) := by
  show BI.Storable upEmb ((kindOf g.2).elim iprop(emp) fun k => pay m g.1.1 k d)
  cases kindOf g.2 <;> (dsimp only [Option.elim]; infer_instance)

/-- The duties of a cell's only round. -/
theorem sched_duties (c : Dev nD) (k : CK) : (sched m).duties (kcell (c, k)) 0 = dut k := by
  show (if 0 = 0 ∧ (kcell (c, k)).1.2 = .tc then (kindOf (csem k)).elim ∅ dut else ∅) = dut k
  rw [kindOf_csem, if_pos ⟨rfl, rfl⟩]; rfl
/-- There is no later round. -/
theorem sched_later (g : GSem nD τ sig) : ∀ r, 1 ≤ r → (sched m).duties g r = ∅ :=
  fun r hr => if_neg fun h => by omega
/-- The units of a cell's duty. -/
theorem sched_amount (c : Dev nD) (k : CK) (d : Fin 3) : (sched m).amount (kcell (c, k)) 0 d = amt k := by
  show (kindOf (csem k)).elim 1 amt = amt k
  rw [kindOf_csem]; rfl
/-- What a cell's duty hands over. -/
theorem sched_payload (c : Dev nD) (k : CK) (d : Fin 3) : (sched m).payload (kcell (c, k)) 0 d = pay m c k d := by
  show (kindOf (csem k)).elim iprop(emp) (fun k => pay m c k d) = pay m c k d
  rw [kindOf_csem]; rfl
/-- A device waits for three units of its barrier, -/
theorem sched_expect_bar (c : Dev nD) : (sched m).expect (kcell (c, bar)) 0 = 3 := by
  unfold Schedule.expect Schedule.amountOf
  rw [sched_duties, Finset.sum_congr rfl fun d _ => sched_amount m c bar d]; rfl
/-- and for one duty's units of any other cell. -/
theorem sched_expect (c : Dev nD) (k : (Fin 6 × Fin 16) ⊕ Fin 4) : (sched m).expect (kcell (c, some k)) 0 = amt (some k) := by
  unfold Schedule.expect Schedule.amountOf
  rw [sched_duties, show dut (some k) = {0} from rfl, Finset.sum_singleton, sched_amount]

/-- A whole round of the barrier hands over its three duties' payloads. -/
theorem rest_bar (c : Dev nD) :
    bigSep ((sched m).duties (kcell (c, bar)) 0 \ ∅) (fun d => (sched m).payload (kcell (c, bar)) 0 d)
      = iprop(pay m c bar 0 ∗ pay m c bar 1 ∗ pay m c bar 2) := by
  rw [Finset.sdiff_empty, sched_duties, show dut bar = Finset.univ from rfl,
    bigSep_univ_eq_bigSepL [0, 1, 2] (by decide) (by decide), bigSepL_cons_cons, bigSepL_cons_cons, bigSepL_singleton]
  simp only [sched_payload]
  rfl
/-- A whole round of any other cell hands over its one duty's payload. -/
theorem rest_one (c : Dev nD) (k : (Fin 6 × Fin 16) ⊕ Fin 4) :
    bigSep ((sched m).duties (kcell (c, some k)) 0 \ ∅) (fun d => (sched m).payload (kcell (c, some k)) 0 d)
      = pay m c (some k) 0 := by
  rw [Finset.sdiff_empty, sched_duties, show dut (some k) = {0} from rfl, bigSep_singleton, sched_payload]

/-! ## Levels -/

/-- A device waits on its barrier, then on its partner's chunks, then on its neighbours' chunks, then on the forwarded
    halves; whoever waits owes only what is waited for later. -/
def lvl : CK → ℕ
  | none => 1
  | some (.inl (1, _)) => 2
  | some (.inl (3, _)) => 3
  | some (.inl (5, _)) => 3
  | some (.inr 1) => 4
  | some (.inr 3) => 4
  | some _ => 0

/-- Every semaphore of a core has one wait, -/
def L (g : GSem nD τ sig) : Finset Unit := if g.1.2 = .tc then {()} else ∅
/-- at the level of its kind; those not in the schedule are lowest. -/
def lv (g : GSem nD τ sig) (_ : Unit) : ℕ := (kindOf g.2).elim 0 lvl

/-- A semaphore off the core has no wait. -/
theorem L_of_ne (g : GSem nD τ sig) (h : g.1.2 ≠ .tc) : L g = ∅ := if_neg h
/-- A semaphore of the core has its one wait. -/
theorem L_tc (c : Dev nD) (sm : SemLoc sig) : L ((c.tc : Thread nD τ), sm) = {()} := if_pos rfl
/-- A cell's level is its kind's. -/
theorem lv_kcell (c : Dev nD) (k : CK) (u : Unit) : lv (kcell (c, k)) u = lvl k := by
  show (kindOf (csem k)).elim 0 lvl = lvl k
  rw [kindOf_csem]; rfl

/-- Tallies all above level `n`. -/
def Above (n : ℕ) (O : CellTallies nD τ sig Unit) : Prop := ∀ g u, 0 < O g u → g.1.2 = .tc ∧ n < lv g u

/-- Nothing owed is above any level. -/
theorem Above.zero (n : ℕ) : Above n 0 := fun g u h => absurd h (Nat.lt_irrefl 0)
/-- A sum of tallies above a level is above it; -/
theorem Above.add {n : ℕ} {O D : CellTallies nD τ sig Unit} (hO : Above n O) (hD : Above n D) : Above n (O + D) := fun g u h => by
  rw [Pi.add_apply, Finsupp.add_apply] at h
  rcases Nat.eq_zero_or_pos (O g u) with h0 | h0
  · exact hD g u (by omega)
  · exact hO g u h0
/-- so is a sum of a family. -/
theorem Above.sum {n : ℕ} {α : Type} (s : Finset α) (T : α → CellTallies nD τ sig Unit) (h : ∀ a, Above n (T a)) :
    Above n (∑ a ∈ s, T a) := by
  classical
  induction s using Finset.induction_on with
  | empty => exact Above.zero n
  | insert a s ha ih => rw [Finset.sum_insert ha]; exact (h a).add ih
/-- Units of a cell above the level are above it. -/
theorem Above.cell {n : ℕ} (c : Dev nD) (k : CK) (N : ℕ) (h : n < lvl k) : Above n (tallyAt (kcell (c, k)) () N) := fun g u hg => by
  rw [tallyAt_apply] at hg
  by_cases hgu : g = kcell (c, k) ∧ u = ()
  · rw [hgu.1]; exact ⟨rfl, by rw [lv_kcell]; exact h⟩
  · rw [if_neg hgu] at hg; exact absurd hg (Nat.lt_irrefl 0)

/-- A core may wait on a semaphore while all it owes is above the semaphore. -/
theorem mayWait_above (c : Dev nD) (sm : SemLoc sig) (n : ℕ) (hn : lv ((c.tc : Thread nD τ), sm) () ≤ n)
    (O : CellTallies nD τ sig Unit) (hO : Above n O) :
    (levAts L lv : sProp 𝕄) ⊢ MayWait (c.tc : Thread nD τ) sm () O :=
  MayOwe.of_cut (L := L) (lev := lv) n
    (fun p hp => by rw [Finset.mem_singleton.mp hp, L_tc]; exact Finset.mem_singleton_self _)
    (fun g u hg => by
      have h : L g = {()} := if_pos (hO g u hg).1
      rw [h]; exact Finset.mem_singleton_self _)
    (fun p hp => by rw [Finset.mem_singleton.mp hp]; exact hn)
    (fun g u hg => (hO g u hg).2)

end Cert.Gather

end
-- ==== Proof.Rules.lean ====
/-
# One rule per operation

Each memory operation of the kernel, at the cells of the schedule: what a device must hold before it and what it holds
after. The loops over chunks are folded by one lemma.
-/
module

public import proofs.«01_k».proof.Proof.Plan
public import Idealize.ShloMosaic.Lib.ViewIndex

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel has no loop that needs a variant. -/
abbrev 𝒱₀ : Variants := Variants.none

/-- The program `k` runs on device `c`'s core and ends in `Q`. -/
abbrev WP (c : Dev nD) (k : TProg F) (Q : PUnit → sProp 𝕄) : sProp 𝕄 :=
  wp frame (wpE (defs₀ (F := F)) 𝒱₀ (c.tc : Thread nD τ) none) Set.univ k Q

/-- Device `c` owes `O`, whatever it has waited on. -/
def ow (c : Dev nD) (O : CellTallies nD τ sig Unit) : sProp 𝕄 := iprop(∃ W, owes (c.tc : Thread nD τ) O W)

variable (m : Mem F) (K : Dev nD × CK → ℕ)

/-- Every cell's invariant, and that its round is reached. -/
def records : sProp 𝕄 :=
  bigSep Finset.univ fun p : Dev nD × CK => iprop(cellInv ER (sched m) (K p) (kcell p) ∗ reached ER (kcell p) 0)

/-- What every device knows throughout: the cells' records and the levels. -/
def ctx : sProp 𝕄 := iprop(records m K ∗ levAts L lv)

instance records_persistent : BI.Persistent (records m K) := by unfold records; infer_instance
instance ctx_persistent : BI.Persistent (ctx m K) := by unfold ctx; infer_instance

/-- The records hold each cell's invariant; -/
theorem ctx_cell (p : Dev nD × CK) : ctx m K ⊢ iprop(cellInv ER (sched m) (K p) (kcell p) ∗ reached ER (kcell p) 0) := by
  unfold ctx records
  exact (show iprop((bigSep Finset.univ fun p : Dev nD × CK => iprop(cellInv ER (sched m) (K p) (kcell p) ∗ reached ER (kcell p) 0)) ∗ levAts L lv)
      ⊢ iprop(bigSep Finset.univ fun p : Dev nD × CK => iprop(cellInv ER (sched m) (K p) (kcell p) ∗ reached ER (kcell p) 0)) by
    iintro ⟨H, -⟩; iexact H).trans (BI.bigSep_elim (Finset.mem_univ p))

/-- and the levels. -/
theorem ctx_levels : ctx m K ⊢ levAts L lv := by
  unfold ctx; iintro ⟨-, H⟩; iexact H

/-! ## Folding the loops -/

/-- A family of sixteen, the first `n` of them done. -/
def mix (P R : Fin 16 → sProp 𝕄) (n : ℕ) : sProp 𝕄 :=
  bigSep Finset.univ fun i : Fin 16 => if i.val < n then R i else P i

/-- None done: all are as at the start. -/
theorem mix_zero (P R : Fin 16 → sProp 𝕄) : mix P R 0 = bigSep Finset.univ P := by
  unfold mix
  exact bigSep_congr fun i _ => if_neg (Nat.not_lt_zero _)
/-- All done. -/
theorem mix_all (P R : Fin 16 → sProp 𝕄) : mix P R 16 = bigSep Finset.univ R := by
  unfold mix
  exact bigSep_congr fun i _ => if_pos i.isLt

/-- The next one is taken out as it was and put back done. -/
theorem mix_step (P R : Fin 16 → sProp 𝕄) (r : Fin 16) : mix P R r.val ⊢ iprop(P r ∗ (R r -∗ mix P R (r.val + 1))) := by
  have e : (bigSep (Finset.univ.erase r) fun i : Fin 16 => if i.val < r.val + 1 then R i else P i)
      = bigSep (Finset.univ.erase r) fun i : Fin 16 => if i.val < r.val then R i else P i :=
    bigSep_congr fun i hi => by
      have hne : i.val ≠ r.val := fun h => (Finset.mem_erase.mp hi).1 (Fin.ext h)
      by_cases h : i.val < r.val
      · rw [if_pos h, if_pos (by omega)]
      · rw [if_neg h, if_neg (by omega)]
  unfold mix
  rw [BI.bigSep_univ_at _ r, BI.bigSep_univ_at (fun i : Fin 16 => if i.val < r.val + 1 then R i else P i) r, e,
    if_neg (Nat.lt_irrefl _), if_pos (Nat.lt_succ_self _)]
  iintro ⟨H, HR⟩
  isplitl [H]; · iexact H
  iintro H'
  isplitl [H'] <;> iassumption

/-- One chunk's step, folded over the sixteen chunks: each takes its `P r` to its `R r` and the thread's own state from
    `S r` to `S (r + 1)`. -/
theorem fold_chunks (c : Dev nD) (Q : PUnit → sProp 𝕄) (f : Fin 16 → TProg F → TProg F) (C : sProp 𝕄) [BI.Persistent C]
    (P R : Fin 16 → sProp 𝕄) (S : ℕ → sProp 𝕄)
    (h : ∀ r k, iprop(C ∗ P r ∗ S r.val) ⊢ iprop((iprop(R r ∗ S (r.val + 1)) -∗ WP c k Q) -∗ WP c (f r k) Q)) (k : TProg F) :
    iprop(C ∗ bigSep Finset.univ P ∗ S 0) ⊢ iprop((iprop(bigSep Finset.univ R ∗ S 16) -∗ WP c k Q) -∗ WP c (chunks.foldr f k) Q) := by
  have step : ∀ (r : Fin 16) (k' : TProg F), (iprop(C ∗ mix P R (r.val + 1) ∗ S (r.val + 1)) ⊢ iprop((iprop(bigSep Finset.univ R ∗ S 16) -∗ WP c k Q) -∗ WP c k' Q)) →
      (iprop(C ∗ mix P R r.val ∗ S r.val) ⊢ iprop((iprop(bigSep Finset.univ R ∗ S 16) -∗ WP c k Q) -∗ WP c (f r k') Q)) := by
    intro r k' hk
    iintro ⟨#HC, HM, HS⟩ Hk
    ihave HM := (mix_step P R r) $$ HM
    icases HM with ⟨HP, HM⟩
    iapply (h r k') $$ [HP HS]
    · isplitr; · iexact HC
      isplitl [HP] <;> iassumption
    iintro ⟨HR, HS⟩
    ihave HM := HM $$ HR
    iapply hk $$ [HM HS]
    · isplitr; · iexact HC
      isplitl [HM] <;> iassumption
    iexact Hk
  rw [← mix_zero P R, ← mix_all P R]
  rw [← mix_all P R] at step
  refine step 0 _ (step 1 _ (step 2 _ (step 3 _ (step 4 _ (step 5 _ (step 6 _ (step 7 _ (step 8 _ (step 9 _ (step 10 _
    (step 11 _ (step 12 _ (step 13 _ (step 14 _ (step 15 _ ?_)))))))))))))))
  show iprop(C ∗ mix P R 16 ∗ S 16) ⊢ _
  iintro ⟨-, HM, HS⟩ Hk
  iapply Hk
  isplitl [HM]
  · iexact HM
  · iexact HS

/-! ## What is owed, peeled chunk by chunk -/

/-- The tallies of the chunks from `n` on. -/
def owFrom (t : Fin 16 → CellTallies nD τ sig Unit) (n : ℕ) : CellTallies nD τ sig Unit :=
  ∑ r : Fin 16, if n ≤ r.val then t r else 0

/-- The next chunk's tally is peeled off. -/
theorem owFrom_peel (t : Fin 16 → CellTallies nD τ sig Unit) (r : Fin 16) : owFrom t r.val = owFrom t (r.val + 1) + t r := by
  have e : t r = ∑ i : Fin 16, if i = r then t i else 0 := by simp
  unfold owFrom
  conv_rhs => rw [e, ← Finset.sum_add_distrib]
  refine Finset.sum_congr rfl fun i _ => ?_
  by_cases h : i = r
  · subst h; simp
  · have hne : i.val ≠ r.val := fun h' => h (Fin.ext h')
    by_cases h' : r.val ≤ i.val
    · rw [if_pos h', if_pos (by omega), if_neg h, add_zero]
    · rw [if_neg h', if_neg (by omega), if_neg h, add_zero]
/-- After the last chunk nothing is owed. -/
theorem owFrom_end (t : Fin 16 → CellTallies nD τ sig Unit) : owFrom t 16 = 0 :=
  Finset.sum_eq_zero fun i _ => if_neg (by omega)
/-- Before the first chunk all is owed. -/
theorem owFrom_zero (t : Fin 16 → CellTallies nD τ sig Unit) : owFrom t 0 = ∑ r : Fin 16, t r :=
  Finset.sum_congr rfl fun i _ => if_pos (Nat.zero_le _)
/-- Chunks each above a level are above it together. -/
theorem owFrom_above {l : ℕ} (t : Fin 16 → CellTallies nD τ sig Unit) (h : ∀ r, Above l (t r)) (n : ℕ) : Above l (owFrom t n) :=
  Above.sum _ _ fun r => by
    by_cases h' : n ≤ r.val
    · rw [if_pos h']; exact h r
    · rw [if_neg h']; exact Above.zero l

/-- The partner's chunks, -/
def dueZ (c : Dev nD) (r : Fin 16) : CellTallies nD τ sig Unit := tallyAt (kcell (zp c, ck 1 r)) () NC
/-- the neighbours' chunks along x and y, -/
def dueX (c : Dev nD) (r : Fin 16) : CellTallies nD τ sig Unit := tallyAt (kcell (xn c, ck 3 r)) () NC
def dueY (c : Dev nD) (r : Fin 16) : CellTallies nD τ sig Unit := tallyAt (kcell (yn c, ck 5 r)) () NC
/-- and the forwarded halves, all owed to the devices that wait for them. -/
def dueFX (c : Dev nD) : CellTallies nD τ sig Unit := tallyAt (kcell (xn c, fw 1)) () NH
def dueFY (c : Dev nD) : CellTallies nD τ sig Unit := tallyAt (kcell (yn c, fw 3)) () NH
/-- One unit of a neighbour's barrier. -/
def dueBar (p : Dev nD) : CellTallies nD τ sig Unit := tallyAt (kcell (p, bar)) () 1

/-- What is owed to the partner from chunk `n` on, -/
def owA (c : Dev nD) (n : ℕ) : CellTallies nD τ sig Unit := owFrom (dueZ c) n
/-- to the neighbours from chunk `n` on, -/
def owB (c : Dev nD) (n : ℕ) : CellTallies nD τ sig Unit := owFrom (fun r => dueY c r + dueX c r) n
/-- and for the forwarded halves. -/
def owC (c : Dev nD) : CellTallies nD τ sig Unit := dueFY c + dueFX c

/-- All that device `c` owes at the start. -/
def owAll (c : Dev nD) : CellTallies nD τ sig Unit :=
  owC c + owB c 0 + owA c 0 + dueBar (yn c) + dueBar (xn c) + dueBar (zp c)

/-- What is owed to the partner is above the barrier; -/
theorem owA_above (c : Dev nD) (n : ℕ) : Above 1 (owA c n) := owFrom_above _ (fun r => Above.cell _ _ _ (by show 1 < 2; decide)) n
/-- what is owed to the neighbours is above the partner's chunks; -/
theorem owB_above (c : Dev nD) (n : ℕ) : Above 2 (owB c n) :=
  owFrom_above _ (fun r => (Above.cell _ _ _ (by show 2 < 3; decide)).add (Above.cell _ _ _ (by show 2 < 3; decide))) n
/-- what is owed for the forwarded halves is above the neighbours' chunks. -/
theorem owC_above (c : Dev nD) : Above 3 (owC c) :=
  (Above.cell _ _ _ (by show 3 < 4; decide)).add (Above.cell _ _ _ (by show 3 < 4; decide))
/-- What is above a level is above a lower one. -/
theorem Above.mono {n n' : ℕ} {O : CellTallies nD τ sig Unit} (h : Above n O) (hn : n' ≤ n) : Above n' O :=
  fun g u hg => ⟨(h g u hg).1, lt_of_le_of_lt hn (h g u hg).2⟩

/-! ## The rules -/

/-- A place written whole through its view holds any contents that the view reads as what was written. -/
theorem landed_eq {sp : Space} {s : Shape} {e : EltTy} (V : Memref sig .tc sp s e) (c : Dev nD) (q : PosShare TreeShare)
    (f g : Buf (Elt F) (V.view.loc (c.tc : Thread nD τ))) (w : s.Idx → Elt F e) (h : V.view.read (Elt F) g = w) :
    (V.view.loc (c.tc : Thread nD τ) ↦[V.view.set]{q} (V.view.write (Elt F) f w Finset.univ) : sProp 𝕄)
      = V.view.loc (c.tc : Thread nD τ) ↦[V.view.set]{q} g := by
  refine pointsTo_congr fun i hi => ?_
  obtain ⟨x, -, rfl⟩ := Finset.mem_map.mp hi
  exact View.eq_of_read_eq ((congrFun (View.read_write_univ f w) x).trans (congrFun h x).symm)

/-- A remote copy between two cells of the schedule. -/
theorem wp_send_cell (c p : Dev nD) (kS kR : (Fin 6 × Fin 16) ⊕ Fin 4) {sp sp' : Space} {s : Shape} {e : EltTy}
    {src : Memref sig .tc sp s e} {dst : Memref sig .tc sp' s e} {hsc : dst.view.ref.isScScratch = false}
    {hsrc : src.view.WordExact} {hdst : dst.view.WordExact}
    {hsem : DmaTarget.Typed sp (csem (some kR)) (.remote (p.tc : Thread nD τ) dst (csem (some kS)) hsc)}
    {k : TProg F} {Q : PUnit → sProp 𝕄} {q : PosShare TreeShare}
    (fs : Buf (Elt F) (src.view.loc (c.tc : Thread nD τ))) (fd : Buf (Elt F) (dst.view.loc (p.tc : Thread nD τ)))
    (hN : dst.view.amount (csem (some kR)) = amt (some kR)) (hS : amt (some kS) = amt (some kR))
    (O : CellTallies nD τ sig Unit)
    (hpay₁ : (src.view.loc (c.tc : Thread nD τ) ↦[src.view.set]{q} fs) ⊢ pay m c (some kS) 0)
    (hpay₂ : (dst.view.loc (p.tc : Thread nD τ) ↦[dst.view.set]{fullShare} (dst.view.write (Elt F) fd (src.view.read (Elt F) fs) Finset.univ))
      ⊢ pay m p (some kR) 0) :
    iprop(ctx m K ∗ (src.view.loc (c.tc : Thread nD τ) ↦[src.view.set]{q} fs) ∗ (dst.view.loc (p.tc : Thread nD τ) ↦[dst.view.set]{fullShare} fd)
        ∗ ow c (O + tallyAt (kcell (p, some kR)) () (amt (some kR)))
        ∗ dutyTok ER (kcell (c, some kS)) 0 0 ∗ dutyTok ER (kcell (p, some kR)) 0 0)
      ⊢ iprop((iprop(cred (tallyAt (kcell (c, some kS)) () (amt (some kR))) ∗ ow c O) -∗ WP c k Q)
          -∗ WP c (.op (.enqueueDma src (.remote (p.tc : Thread nD τ) dst (csem (some kS)) hsc) (csem (some kR)) hsrc hdst hsem) fun _ => k) Q) := by
  iintro ⟨#Hc, Hs, Hd, HO, HtS, HtR⟩ Hk
  ihave #HS := (ctx_cell m K (c, some kS)) $$ Hc
  ihave #HR := (ctx_cell m K (p, some kR)) $$ Hc
  icases HS with ⟨#HIS, #HrS⟩
  icases HR with ⟨#HIR, #HrR⟩
  unfold ow
  icases HO with ⟨%W, HO⟩
  iapply (Rounds.wp_send_pointsTo 𝒱₀ ER (sched m) (c.tc : Thread nD τ) none (κ₁ := K (c, some kS)) (κ₂ := K (p, some kR))
      (r₁ := 0) (r₂ := 0) (d₁ := 0) (d₂ := 0) (fd := fd)
      (by rw [sched_duties]; exact Finset.mem_singleton_self _) (by rw [sched_duties]; exact Finset.mem_singleton_self _)
      () () (amt (some kR)) hN ((sched_amount m c (some kS) 0).trans hS) (sched_amount m p (some kR) 0) O rfl (W := W)
      (by rw [sched_payload]; exact hpay₁) (by rw [sched_payload]; exact hpay₂)) $$ [Hs Hd HO HtS HtR]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HcS]; · iexact HcS
  iexists W; iexact HO

/-- The wait on a cell of the schedule: what its duty hands over, and the semaphore at zero, its cell closed. -/
theorem wp_wait_cell (c : Dev nD) (kR : (Fin 6 × Fin 16) ⊕ Fin 4) (sm : DmaSem sig) (hs : csem (some kR) = .dma sm)
    {sp sp' : Space} {s s' : Shape} {e e' : EltTy} {srcw : Memref sig .tc sp' s' e'} {dstw : Memref sig .tc sp s e}
    {hsrc : srcw.view.WordExact} {hdst : dstw.view.WordExact} {k : TProg F} {Q : PUnit → sProp 𝕄}
    (hN : dstw.view.dmaCredit = amt (some kR)) (O : CellTallies nD τ sig Unit) (n : ℕ) (hn : lvl (some kR) ≤ n) (hO : Above n O) :
    iprop(ctx m K ∗ cred (tallyAt (kcell (c, some kR)) () (amt (some kR))) ∗ ow c O ∗ atPos ER (kcell (c, some kR)) 0 ∅ 0)
      ⊢ iprop((iprop(pay m c (some kR) 0 ∗ ow c O ∗ semVal (kcell (c, some kR)) 0) -∗ WP c k Q)
          -∗ WP c (.op (.waitDma2 sm srcw dstw hsrc hdst) fun _ => k) Q) := by
  iintro ⟨#Hc, Hcr, HO, Hat⟩ Hk
  ihave #HS := (ctx_cell m K (c, some kR)) $$ Hc
  ihave #HL := (ctx_levels m K) $$ Hc
  icases HS with ⟨#HI, #Hr⟩
  unfold ow
  icases HO with ⟨%W, HO⟩
  have hlev : (levAts L lv : sProp 𝕄) ⊢ MayWait (c.tc : Thread nD τ) (.dma sm) () O :=
    mayWait_above c (.dma sm) n (by rw [← hs]; exact (lv_kcell c (some kR) ()).le.trans hn) O hO
  have hexp : 0 + dstw.view.dmaCredit = (sched m).expect (kcell (c, some kR)) 0 := by rw [Nat.zero_add, hN, sched_expect]
  rw [show kcell (c, some kR) = ((c.tc : Thread nD τ), SemLoc.dma sm) from congrArg _ hs] at hexp ⊢
  rw [← hN]
  iapply (Rounds.wp_wait_rest_token 𝒱₀ ER (sched m) (c.tc : Thread nD τ) none (κ := K (c, some kR))
      (wpE_waitDma2_eq 𝒱₀ (c.tc : Thread nD τ) none Set.univ) (Set.mem_univ _) () (O := O) (W := W) (R := 0) (m := 0) (T := ∅) hexp) $$ [Hcr HO Hat]
  · isplitr; · iexact HI
    isplitl [Hcr]; · iexact Hcr
    isplitl [HO]; · iexact HO
    isplitr; · iapply hlev; iexact HL
    iexact Hat
  iintro ⟨HO, Hat, -, Hpay⟩
  imod (Rounds.cell_close ER (sched m) (Set.mem_univ (K (c, some kR))) (fun h => h) (R := 0 + 1) (sched_later m _)) $$ [Hat] with Hz
  · isplitr; · iexact HI
    iexact Hat
  iapply Hk
  isplitl [Hpay]
  · have e := rest_one m c kR
    rw [show kcell (c, some kR) = ((c.tc : Thread nD τ), SemLoc.dma sm) from congrArg _ hs] at e
    iapply (Entails.of_eq e); iexact Hpay
  isplitl [HO]
  · iexists _; iexact HO
  iexact Hz

end Cert.Gather

end
-- ==== Proof.Moves.lean ====
/-
# The device's own copies, its loads and stores, and its remote copies

Each operation of a chunk, with what the device holds before it and what it holds after.
-/
module

public import proofs.«01_k».proof.Proof.Rules

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : Mem F) (K : Dev nD × CK → ℕ)

/-! ## Contents -/

/-- What a device sums, as a function of the two loaded chunks. -/
theorem sumVal_eq (v : Vec F S1x256x1024 .f32) (w : Vec F S1x256x1024 .bf16) (x : Vec F S256x1024 .f32) (y : Vec F S256x1024 .bf16)
    (h : shapeCast S256x1024 v shapeCasts_S1x256x1024_S256x1024 = x)
    (h' : shapeCast S256x1024 w shapeCasts_S1x256x1024_S256x1024 = y) :
    sumVal v w = shapeCast S1x256x1024 (truncf .bf16 (addf x (extf .f32 y bitsLt_bf16_f32)) bitsLt_bf16_f32)
      shapeCasts_S256x1024_S1x256x1024 := by
  subst h h'; rfl

/-- A place stored whole through a view holds any contents that the view reads as what was stored. -/
theorem stored_eq {b : Ref sig .tc} {s : Shape} {e : EltTy} (V : View sig .tc b.space s e) (c : Dev nD) (q : PosShare TreeShare)
    (f g : Buf (Elt F) (V.loc (c.tc : Thread nD τ))) (w : s.Idx → Elt F e) (h : V.read (Elt F) g = w) :
    (V.loc (c.tc : Thread nD τ) ↦[V.set]{q} (V.write (Elt F) f w Finset.univ) : sProp 𝕄)
      = V.loc (c.tc : Thread nD τ) ↦[V.set]{q} g := by
  refine pointsTo_congr fun i hi => ?_
  obtain ⟨x, -, rfl⟩ := Finset.mem_map.mp hi
  exact View.eq_of_read_eq ((congrFun (View.read_write_univ f w) x).trans (congrFun h x).symm)

/-- Loading staging slot `b` reads the slot's elements. -/
theorem slot_access (b : Fin 2) : ((Memref.whole cc0_scratch0 : Memref sig .tc _ _ _).access (slotR b)).set = (vfV b).view.set :=
  (View.set_reshape _ _).symm
/-- Storing chunk `r` of the send buffer writes the chunk's elements. -/
theorem vs_access (r : Fin 16) : ((Memref.whole cc0_scratch1 : Memref sig .tc _ _ _).access (chunkR r)).set = (vsV r).view.set :=
  (View.set_reshape _ _).symm
/-- Loading chunk `r` of the receive buffer reads the chunk's elements. -/
theorem rz_access (r : Fin 16) : ((Memref.whole cc0_scratch2 : Memref sig .tc _ _ _).access (chunkR r)).set = (rzV r).view.set :=
  (View.set_reshape _ _).symm
/-- Storing chunk `r` of the summed quarter writes the chunk's elements. -/
theorem vp_access (r : Fin 16) : ((Memref.whole cc0_scratch3 : Memref sig .tc _ _ _).access (chunkR r)).set = (vpV r).view.set :=
  (View.set_reshape _ _).symm

/-! ## Loading the input's chunks into the staging slots -/

/-- Device `c` holds some share of its input. -/
def xAny (c : Dev nD) : sProp 𝕄 := iprop(∃ q, (c.tc : Thread nD τ).loc main_arg0 ↦{q} m ((c.tc : Thread nD τ).loc main_arg0))

/-- Staging slot `b` is free: no load into it is in flight. -/
def slotFree (c : Dev nD) (b : Fin 2) : sProp (MT nD τ sig Unit (Elt F) ℕ UU ℕ) :=
  iprop((∃ f, vfP c b f) ∗ semVal ((c.tc : Thread nD τ), .dma (fSem b)) 0)

/-- The load of chunk `r` is in flight. -/
def inFlight (c : Dev nD) (z : Fin 2) (q : Fin 4) (r : Fin 16) : sProp 𝕄 :=
  iprop(∃ fd sh, Flight EC (c.tc : Thread nD τ) (.dma (fSem (slotOf r))) () NX
    iprop((vfP c (slotOf r) ((vfV (slotOf r)).view.write (Elt F) fd
        ((xV z q r).view.read (Elt F) (m ((c.tc : Thread nD τ).loc main_arg0))) Finset.univ))
      ∗ ((xV z q r).view.loc (c.tc : Thread nD τ) ↦[(xV z q r).view.set]{sh} m ((c.tc : Thread nD τ).loc main_arg0))))

/-- Chunk `r` is loaded in its slot. -/
def loaded (c : Dev nD) (z : Fin 2) (q : Fin 4) (r : Fin 16) : sProp 𝕄 :=
  iprop((∃ f, ⌜(vfV (slotOf r)).view.read (Elt F) f = xin m c z q r⌝ ∗ vfP c (slotOf r) f)
    ∗ semVal ((c.tc : Thread nD τ), .dma (fSem (slotOf r))) 0)

/-- Starting the load of a chunk of the input into its free slot puts it in flight. -/
theorem wp_loadX (c : Dev nD) (z : Fin 2) (q : Fin 4) (r : Fin 16) (k : TProg F) (Q : PUnit → sProp 𝕄) :
    iprop(xAny m c ∗ slotFree c (slotOf r))
      ⊢ iprop((iprop(xAny m c ∗ inFlight m c z q r) -∗ WP c k Q) -∗ WP c (loadX z q r k) Q) := by
  unfold xAny slotFree inFlight
  iintro ⟨⟨%sh, Hx⟩, ⟨⟨%fd, Hf⟩, Hs⟩⟩ Hk
  ihave Hx := (pointsTo_share (PosShare.mem_left_op_right sh)).1 $$ Hx
  icases Hx with ⟨Hx, Hx'⟩
  ihave Hx' := (pointsTo_split_subset (Finset.subset_univ (xV z q r).view.set)).1 $$ Hx'
  icases Hx' with ⟨Hx', -⟩
  iapply (wp_dmaLocal EC 𝒱₀ (c.tc : Thread nD τ) none (src := xV z q r) (dst := vfV (slotOf r)) (sm := .dma (fSem (slotOf r))) () NX
    (vf_credit (slotOf r)) NX_pos (Finset.Subset.refl _)) $$ [Hx' Hf Hs]
  · isplitl [Hx']; · iexact Hx'
    isplitl [Hf] <;> iassumption
  iintro HF
  iapply Hk
  isplitl [Hx]
  · iexists sh.left; iexact Hx
  iexists fd; iexists sh.right; iexact HF

/-- The loads' semaphores are at the lowest level, -/
theorem fSem_lv (c : Dev nD) (b : Fin 2) : lv ((c.tc : Thread nD τ), .dma (fSem b)) () = 0 := by
  revert b c; decide
/-- and so are those of the copies into the own result. -/
theorem po_lv (c : Dev nD) (r : Fin 16) : lv ((c.tc : Thread nD τ), .dma (semAt cc0_scratch5 r)) () = 0 := by
  revert r c; decide

/-- Waiting for a load in flight leaves the chunk in its slot. -/
theorem wp_waitX (c : Dev nD) (z : Fin 2) (q : Fin 4) (r : Fin 16) (k : TProg F) (Q : PUnit → sProp 𝕄)
    (O : CellTallies nD τ sig Unit) (hO : Above 0 O) :
    iprop(ctx m K ∗ inFlight m c z q r ∗ ow c O)
      ⊢ iprop((iprop(loaded m c z q r ∗ ow c O) -∗ WP c k Q) -∗ WP c (waitX z q r k) Q) := by
  unfold inFlight loaded ow
  iintro ⟨#HC, ⟨%fd, %sh, HF⟩, ⟨%W, HO⟩⟩ Hk
  ihave #HL := (ctx_levels m K) $$ HC
  iapply (wp_waitLocalO EC 𝒱₀ (c.tc : Thread nD τ) none () (vf_credit (slotOf r))) $$ [HF HO]
  · isplitl [HF]; · iexact HF
    isplitl [HO]; · iexact HO
    iapply (mayWait_above c (.dma (fSem (slotOf r))) 0 (fSem_lv c _).le O hO); iexact HL
  iintro ⟨⟨Hf, -⟩, Hs, HO⟩
  iapply Hk
  isplitl [Hf Hs]
  · isplitl [Hf]
    · iexists ((vfV (slotOf r)).view.write (Elt F) fd
        ((xV z q r).view.read (Elt F) (m ((c.tc : Thread nD τ).loc main_arg0))) Finset.univ)
      isplitr
      · ipureintro; exact View.read_write_univ _ _
      iexact Hf
    iexact Hs
  iexists _; iexact HO

/-- Reading a loaded slot gives the input's chunk, and frees the slot. -/
theorem wp_readX (c : Dev nD) (z : Fin 2) (q : Fin 4) (r : Fin 16) (k : Vec F S1x256x1024 .f32 → TProg F) (Q : PUnit → sProp 𝕄) :
    loaded m c z q r
      ⊢ iprop((∀ v, ⌜shapeCast S256x1024 v shapeCasts_S1x256x1024_S256x1024 = xin m c z q r⌝ -∗ slotFree c (slotOf r) -∗ WP c (k v) Q)
          -∗ WP c (readX r k) Q) := by
  unfold loaded slotFree
  iintro ⟨⟨%f, %hf, Hf⟩, Hs⟩ Hk
  iapply (wp_load_rect 𝒱₀ (c.tc : Thread nD τ) none Set.univ (m := Memref.whole cc0_scratch0) (slot_access (slotOf r)).le) $$ Hf
  iintro Hf
  iapply Hk $$ [] [Hf Hs]
  · ipureintro
    exact hf
  isplitl [Hf]
  · iexists f; iexact Hf
  iexact Hs

/-! ## The exchange with the partner -/

/-- Storing the rounded chunk in the send buffer. -/
theorem wp_storeZ (c : Dev nD) (r : Fin 16) (v : FVec F S1x256x1024 .bf16)
    (hv : v = shapeCast S1x256x1024 (sent m c r) shapeCasts_S256x1024_S1x256x1024) (k : TProg F) (Q : PUnit → sProp 𝕄) :
    iprop(∃ f, vsP c r f) ⊢ iprop((vsP c r (sentBuf m c) -∗ WP c k Q) -∗ WP c (storeZ r v k) Q) := by
  iintro ⟨%f, Hf⟩ Hk
  iapply (wp_load_rect 𝒱₀ (c.tc : Thread nD τ) none Set.univ (m := Memref.whole cc0_scratch1) (vs_access r).le) $$ Hf
  iintro Hf
  iapply (wp_store 𝒱₀ (c.tc : Thread nD τ) none Set.univ (m := Memref.whole cc0_scratch1) (r := chunkR r) (Mk := Finset.univ)
    (vs_access r).le) $$ Hf
  iintro Hf
  iapply Hk
  have e := stored_eq (b := cc0_scratch1) ((Memref.whole cc0_scratch1 : Memref sig .tc _ _ _).access (chunkR r)) c fullShare f (sentBuf m c) v
    ((sentBuf_load m c r).trans hv.symm)
  rw [vs_access r] at e
  iapply (Entails.of_eq e); iexact Hf

/-- Sending the rounded chunk to the partner, into the partner's borrowed buffer. -/
theorem wp_sendZ (c : Dev nD) (r : Fin 16) (k : TProg F) (Q : PUnit → sProp 𝕄) (O : CellTallies nD τ sig Unit) :
    iprop(ctx m K ∗ vsP c r (sentBuf m c) ∗ (∃ f, rzP (zp c) r f) ∗ ow c (O + dueZ c r)
        ∗ dutyTok ER (kcell (c, ck 0 r)) 0 0 ∗ dutyTok ER (kcell (zp c, ck 1 r)) 0 0)
      ⊢ iprop((iprop(cred (tallyAt (kcell (c, ck 0 r)) () NC) ∗ ow c O) -∗ WP c k Q) -∗ WP c (sendZ (zp c) r k) Q) := by
  iintro ⟨#HC, Hs, ⟨%fd, Hd⟩, HO, Ht⟩ Hk
  iapply (wp_send_cell m K c (zp c) (.inl (0, r)) (.inl (1, r)) (src := vsV r) (dst := rzV r) (sentBuf m c) fd (rz_credit r) rfl O
    .rfl (Entails.of_eq ((landed_eq (rzV r) (zp c) fullShare fd (sentBuf m c) _ ((rz_read m c r).trans (vs_read m c r).symm)).trans
      (by show _ = rzP (zp c) r (sentBuf m (zp (zp c))); rw [zp_zp])))) $$ [Hs Hd HO Ht]
  · isplitr; · iexact HC
    isplitl [Hs]; · iexact Hs
    isplitl [Hd]; · iexact Hd
    isplitl [HO]; · iexact HO
    iexact Ht
  iexact Hk

/-- Waiting for the partner's chunk. -/
theorem wp_waitZ (c : Dev nD) (r : Fin 16) (k : TProg F) (Q : PUnit → sProp 𝕄) (O : CellTallies nD τ sig Unit) (hO : Above 2 O) :
    iprop(ctx m K ∗ cred (tallyAt (kcell (c, ck 1 r)) () NC) ∗ ow c O ∗ atPos ER (kcell (c, ck 1 r)) 0 ∅ 0)
      ⊢ iprop((iprop(rzP c r (sentBuf m (zp c)) ∗ ow c O ∗ semVal (kcell (c, ck 1 r)) 0) -∗ WP c k Q) -∗ WP c (waitZ r k) Q) :=
  wp_wait_cell m K c (.inl (1, r)) (semAt cc0_scratch7 r) rfl (rz_credit r) O 2 le_rfl hO

/-- Reading the partner's chunk. -/
theorem wp_readZ (c : Dev nD) (r : Fin 16) (k : Vec F S1x256x1024 .bf16 → TProg F) (Q : PUnit → sProp 𝕄) :
    rzP c r (sentBuf m (zp c))
      ⊢ iprop((rzP c r (sentBuf m (zp c)) -∗ WP c (k (shapeCast S1x256x1024 (sent m (zp c) r) shapeCasts_S256x1024_S1x256x1024)) Q)
          -∗ WP c (readZ r k) Q) := by
  have e : ((Memref.whole cc0_scratch2 : Memref sig .tc _ _ _).access (chunkR r)).read (Elt F) (sentBuf m (zp c))
      = shapeCast S1x256x1024 (sent m (zp c) r) shapeCasts_S256x1024_S1x256x1024 := rz_load m (zp c) r
  rw [← e]
  exact wp_load_rect 𝒱₀ (c.tc : Thread nD τ) none Set.univ (m := Memref.whole cc0_scratch2) (rz_access r).le

/-! ## The sums -/

/-- Storing the sum of the own chunk and the partner's. -/
theorem wp_storeP (c : Dev nD) (r : Fin 16) (v : FVec F S1x256x1024 .bf16)
    (hv : v = shapeCast S1x256x1024 (summed m c r) shapeCasts_S256x1024_S1x256x1024) (k : TProg F) (Q : PUnit → sProp 𝕄) :
    iprop(∃ f, vpP c fullShare r f)
      ⊢ iprop((iprop(vpP c shx r (partBuf m c) ∗ vpP c shy r (partBuf m c) ∗ vpP c sho r (partBuf m c)) -∗ WP c k Q) -∗ WP c (storeP r v k) Q) := by
  iintro ⟨%f, Hf⟩ Hk
  iapply (wp_load_rect 𝒱₀ (c.tc : Thread nD τ) none Set.univ (m := Memref.whole cc0_scratch3) (vp_access r).le) $$ Hf
  iintro Hf
  iapply (wp_store 𝒱₀ (c.tc : Thread nD τ) none Set.univ (m := Memref.whole cc0_scratch3) (r := chunkR r) (Mk := Finset.univ)
    (vp_access r).le) $$ Hf
  iintro Hf
  iapply Hk
  have e := stored_eq (b := cc0_scratch3) ((Memref.whole cc0_scratch3 : Memref sig .tc _ _ _).access (chunkR r)) c fullShare f (partBuf m c) v
    ((partBuf_load m c r).trans hv.symm)
  rw [vp_access r] at e
  ihave Hf := (Entails.of_eq e) $$ Hf
  ihave Hf := (pointsTo_share (PosShare.mem_left_op_right fullShare)).1 $$ Hf
  icases Hf with ⟨H1, Hf⟩
  ihave Hf := (pointsTo_share (PosShare.mem_left_op_right fullShare.right)).1 $$ Hf
  icases Hf with ⟨H2, H3⟩
  isplitl [H1]; · iexact H1
  isplitl [H2]; · iexact H2
  iexact H3

/-- The three shares of a summed chunk make it up. -/
theorem vp_join (c : Dev nD) (r : Fin 16) :
    iprop(vpP c shx r (partBuf m c) ∗ vpP c shy r (partBuf m c) ∗ vpP c sho r (partBuf m c)) ⊢ vpP c fullShare r (partBuf m c) := by
  iintro ⟨H1, H2, H3⟩
  iapply (pointsTo_share (PosShare.mem_left_op_right fullShare)).2
  isplitl [H1]; · iexact H1
  iapply (pointsTo_share (PosShare.mem_left_op_right fullShare.right)).2
  isplitl [H2]; · iexact H2
  iexact H3

/-- A chunk of the sum, written at its place of a result, is that place of the whole result. -/
theorem out_landed (c p : Dev nD) (r : Fin 16) (f : S16384x1024.Idx → Elt F .bf16) (hz : zOf p = zOf c) :
    (outP p (qOf c) r ((outV (qOf c) r).view.write (Elt F) f ((vpV r).view.read (Elt F) (partBuf m c)) Finset.univ))
      = outP p (qOf c) r (result m (zOf p)) :=
  landed_eq (outV (qOf c) r) p fullShare f (result m (zOf p)) _
    ((out_read m (zOf p) (qOf c) r).trans
      ((show summed m (devAt (zOf p) (qOf c)) r = summed m c r by rw [hz, devAt_self]).trans (vp_read m c r).symm))

/-- Sending the summed chunk to the x neighbour. -/
theorem wp_sendX (c : Dev nD) (r : Fin 16) (k : TProg F) (Q : PUnit → sProp 𝕄) (O : CellTallies nD τ sig Unit) :
    iprop(ctx m K ∗ vpP c shx r (partBuf m c) ∗ (∃ f, outP (xn c) (qOf c) r f) ∗ ow c (O + dueX c r)
        ∗ dutyTok ER (kcell (c, ck 2 r)) 0 0 ∗ dutyTok ER (kcell (xn c, ck 3 r)) 0 0)
      ⊢ iprop((iprop(cred (tallyAt (kcell (c, ck 2 r)) () NC) ∗ ow c O) -∗ WP c k Q)
          -∗ WP c (sendOut (xn c) cc0_scratch8 cc0_scratch9 (qOf c) r k) Q) := by
  iintro ⟨#HC, Hs, ⟨%fd, Hd⟩, HO, Ht⟩ Hk
  iapply (wp_send_cell m K c (xn c) (.inl (2, r)) (.inl (3, r)) (src := vpV r) (dst := outV (qOf c) r) (partBuf m c) fd (out_credit _ r) rfl O
    .rfl (Entails.of_eq ((out_landed m c (xn c) r fd (zOf_xn c)).trans
      (by show _ = outP (xn c) (qOf (xn (xn c))) r (result m (zOf (xn c))); rw [xn_xn])))) $$ [Hs Hd HO Ht]
  · isplitr; · iexact HC
    isplitl [Hs]; · iexact Hs
    isplitl [Hd]; · iexact Hd
    isplitl [HO]; · iexact HO
    iexact Ht
  iexact Hk

/-- Sending the summed chunk to the y neighbour. -/
theorem wp_sendY (c : Dev nD) (r : Fin 16) (k : TProg F) (Q : PUnit → sProp 𝕄) (O : CellTallies nD τ sig Unit) :
    iprop(ctx m K ∗ vpP c shy r (partBuf m c) ∗ (∃ f, outP (yn c) (qOf c) r f) ∗ ow c (O + dueY c r)
        ∗ dutyTok ER (kcell (c, ck 4 r)) 0 0 ∗ dutyTok ER (kcell (yn c, ck 5 r)) 0 0)
      ⊢ iprop((iprop(cred (tallyAt (kcell (c, ck 4 r)) () NC) ∗ ow c O) -∗ WP c k Q)
          -∗ WP c (sendOut (yn c) cc0_scratch10 cc0_scratch11 (qOf c) r k) Q) := by
  iintro ⟨#HC, Hs, ⟨%fd, Hd⟩, HO, Ht⟩ Hk
  iapply (wp_send_cell m K c (yn c) (.inl (4, r)) (.inl (5, r)) (src := vpV r) (dst := outV (qOf c) r) (partBuf m c) fd (out_credit _ r) rfl O
    .rfl (Entails.of_eq ((out_landed m c (yn c) r fd (zOf_yn c)).trans
      (by show _ = outP (yn c) (qOf (yn (yn c))) r (result m (zOf (yn c))); rw [yn_yn])))) $$ [Hs Hd HO Ht]
  · isplitr; · iexact HC
    isplitl [Hs]; · iexact Hs
    isplitl [Hd]; · iexact Hd
    isplitl [HO]; · iexact HO
    iexact Ht
  iexact Hk

/-- The copy of the summed chunk `r` into the device's own result is in flight. -/
def copying (c : Dev nD) (r : Fin 16) : sProp 𝕄 :=
  iprop(∃ fd, Flight EC (c.tc : Thread nD τ) (.dma (semAt cc0_scratch5 r)) () NC
    iprop((outP c (qOf c) r ((outV (qOf c) r).view.write (Elt F) fd ((vpV r).view.read (Elt F) (partBuf m c)) Finset.univ))
      ∗ vpP c sho r (partBuf m c)))

/-- Starting the copy of the summed chunk into the own result. -/
theorem wp_copyOut (c : Dev nD) (r : Fin 16) (k : TProg F) (Q : PUnit → sProp 𝕄) :
    iprop(vpP c sho r (partBuf m c) ∗ (∃ f, outP c (qOf c) r f) ∗ semVal ((c.tc : Thread nD τ), .dma (semAt cc0_scratch5 r)) 0)
      ⊢ iprop((copying m c r -∗ WP c k Q) -∗ WP c (copyOut (qOf c) r k) Q) := by
  unfold copying
  iintro ⟨Hp, ⟨%fd, Hd⟩, Hs⟩ Hk
  iapply (wp_dmaLocal EC 𝒱₀ (c.tc : Thread nD τ) none (src := vpV r) (dst := outV (qOf c) r) (sm := .dma (semAt cc0_scratch5 r)) () NC
    (out_credit _ r) NC_pos (Finset.Subset.refl _)) $$ [Hp Hd Hs]
  · isplitl [Hp]; · iexact Hp
    isplitl [Hd] <;> iassumption
  iintro HF
  iapply Hk
  iexists fd; iexact HF

/-- Waiting for that copy: the chunk is in the result, its share of the source is back. -/
theorem wp_waitCopy (c : Dev nD) (r : Fin 16) (k : TProg F) (Q : PUnit → sProp 𝕄) (O : CellTallies nD τ sig Unit) (hO : Above 0 O) :
    iprop(ctx m K ∗ copying m c r ∗ ow c O)
      ⊢ iprop((iprop(outP c (qOf c) r (result m (zOf c)) ∗ vpP c sho r (partBuf m c)
            ∗ semVal ((c.tc : Thread nD τ), .dma (semAt cc0_scratch5 r)) 0 ∗ ow c O) -∗ WP c k Q)
          -∗ WP c (waitOut cc0_scratch5 (qOf c) r k) Q) := by
  unfold copying ow
  iintro ⟨#HC, ⟨%fd, HF⟩, ⟨%W, HO⟩⟩ Hk
  ihave #HL := (ctx_levels m K) $$ HC
  iapply (wp_waitLocalO EC 𝒱₀ (c.tc : Thread nD τ) none () (out_credit (qOf c) r)) $$ [HF HO]
  · isplitl [HF]; · iexact HF
    isplitl [HO]; · iexact HO
    iapply (mayWait_above c (.dma (semAt cc0_scratch5 r)) 0 (po_lv c r).le O hO); iexact HL
  iintro ⟨⟨Hf, Hp⟩, Hs, HO⟩
  iapply Hk
  isplitl [Hf]
  · iapply (Entails.of_eq (out_landed m c c r fd rfl)); iexact Hf
  isplitl [Hp]; · iexact Hp
  isplitl [Hs]; · iexact Hs
  iexists _; iexact HO

/-! ## The waits of the neighbours' chunks and of the sends -/

/-- Waiting for a chunk of the x neighbour's quarter. -/
theorem wp_waitOutX (c : Dev nD) (r : Fin 16) (k : TProg F) (Q : PUnit → sProp 𝕄) (O : CellTallies nD τ sig Unit) (hO : Above 3 O) :
    iprop(ctx m K ∗ cred (tallyAt (kcell (c, ck 3 r)) () NC) ∗ ow c O ∗ atPos ER (kcell (c, ck 3 r)) 0 ∅ 0)
      ⊢ iprop((iprop(outP c (qOf (xn c)) r (result m (zOf c)) ∗ ow c O ∗ semVal (kcell (c, ck 3 r)) 0) -∗ WP c k Q)
          -∗ WP c (waitOut cc0_scratch9 (qOf (xn c)) r k) Q) :=
  wp_wait_cell m K c (.inl (3, r)) (semAt cc0_scratch9 r) rfl (out_credit _ r) O 3 le_rfl hO

/-- Waiting for a chunk of the y neighbour's quarter. -/
theorem wp_waitOutY (c : Dev nD) (r : Fin 16) (k : TProg F) (Q : PUnit → sProp 𝕄) (O : CellTallies nD τ sig Unit) (hO : Above 3 O) :
    iprop(ctx m K ∗ cred (tallyAt (kcell (c, ck 5 r)) () NC) ∗ ow c O ∗ atPos ER (kcell (c, ck 5 r)) 0 ∅ 0)
      ⊢ iprop((iprop(outP c (qOf (yn c)) r (result m (zOf c)) ∗ ow c O ∗ semVal (kcell (c, ck 5 r)) 0) -∗ WP c k Q)
          -∗ WP c (waitOut cc0_scratch11 (qOf (yn c)) r k) Q) :=
  wp_wait_cell m K c (.inl (5, r)) (semAt cc0_scratch11 r) rfl (out_credit _ r) O 3 le_rfl hO

/-- Waiting until the chunk for the partner has been sent: the source is back. -/
theorem wp_waitSentZ (c : Dev nD) (r : Fin 16) (k : TProg F) (Q : PUnit → sProp 𝕄) (O : CellTallies nD τ sig Unit) (hO : Above 0 O) :
    iprop(ctx m K ∗ cred (tallyAt (kcell (c, ck 0 r)) () NC) ∗ ow c O ∗ atPos ER (kcell (c, ck 0 r)) 0 ∅ 0)
      ⊢ iprop((iprop(vsP c r (sentBuf m c) ∗ ow c O ∗ semVal (kcell (c, ck 0 r)) 0) -∗ WP c k Q)
          -∗ WP c (waitSentZ r k) Q) :=
  wp_wait_cell m K c (.inl (0, r)) (semAt cc0_scratch6 r) rfl (vs_credit r) O 0 le_rfl hO

/-- Waiting until the chunk along x has been sent: its share of the source is back. -/
theorem wp_waitSentX (c : Dev nD) (r : Fin 16) (k : TProg F) (Q : PUnit → sProp 𝕄) (O : CellTallies nD τ sig Unit) (hO : Above 0 O) :
    iprop(ctx m K ∗ cred (tallyAt (kcell (c, ck 2 r)) () NC) ∗ ow c O ∗ atPos ER (kcell (c, ck 2 r)) 0 ∅ 0)
      ⊢ iprop((iprop(vpP c shx r (partBuf m c) ∗ ow c O ∗ semVal (kcell (c, ck 2 r)) 0) -∗ WP c k Q)
          -∗ WP c (waitSent cc0_scratch8 (qOf c) r k) Q) :=
  wp_wait_cell m K c (.inl (2, r)) (semAt cc0_scratch8 r) rfl (vp_credit r) O 0 le_rfl hO

/-- Waiting until the chunk along y has been sent: its share of the source is back. -/
theorem wp_waitSentY (c : Dev nD) (r : Fin 16) (k : TProg F) (Q : PUnit → sProp 𝕄) (O : CellTallies nD τ sig Unit) (hO : Above 0 O) :
    iprop(ctx m K ∗ cred (tallyAt (kcell (c, ck 4 r)) () NC) ∗ ow c O ∗ atPos ER (kcell (c, ck 4 r)) 0 ∅ 0)
      ⊢ iprop((iprop(vpP c shy r (partBuf m c) ∗ ow c O ∗ semVal (kcell (c, ck 4 r)) 0) -∗ WP c k Q)
          -∗ WP c (waitSent cc0_scratch10 (qOf c) r k) Q) :=
  wp_wait_cell m K c (.inl (4, r)) (semAt cc0_scratch10 r) rfl (vp_credit r) O 0 le_rfl hO

/-! ## The forwarded halves -/

/-- Forwarding half of the y neighbour's quarter along x. -/
theorem wp_forwardX (c : Dev nD) (k : TProg F) (Q : PUnit → sProp 𝕄) (O : CellTallies nD τ sig Unit) :
    iprop(ctx m K ∗ halfP c (qOf (yn c)) (hx c) (result m (zOf c)) ∗ (∃ f, halfP (xn c) (qOf (yn c)) (hx c) f) ∗ ow c (O + dueFX c)
        ∗ dutyTok ER (kcell (c, fw 0)) 0 0 ∗ dutyTok ER (kcell (xn c, fw 1)) 0 0)
      ⊢ iprop((iprop(cred (tallyAt (kcell (c, fw 0)) () NH) ∗ ow c O) -∗ WP c k Q)
          -∗ WP c (forward (xn c) cc0_scratch12.sem cc0_scratch13.sem (qOf (yn c)) (hx c) k) Q) := by
  iintro ⟨#HC, Hs, ⟨%fd, Hd⟩, HO, Ht⟩ Hk
  iapply (wp_send_cell m K c (xn c) (.inr 0) (.inr 1) (src := halfV (qOf (yn c)) (hx c)) (dst := halfV (qOf (yn c)) (hx c))
    (result m (zOf c)) fd (half_credit _ _) rfl O .rfl
    (Entails.of_eq ((landed_eq (halfV (qOf (yn c)) (hx c)) (xn c) fullShare fd (result m (zOf c)) _ rfl).trans
      (by show _ = halfP (xn c) (qOf (xn (yn (xn c)))) (hy (xn c)) (result m (zOf (xn c)))
          rw [yn_xn, xn_xn, hy_xn, zOf_xn])))) $$ [Hs Hd HO Ht]
  · isplitr; · iexact HC
    isplitl [Hs]; · iexact Hs
    isplitl [Hd]; · iexact Hd
    isplitl [HO]; · iexact HO
    iexact Ht
  iexact Hk

/-- Forwarding half of the x neighbour's quarter along y. -/
theorem wp_forwardY (c : Dev nD) (k : TProg F) (Q : PUnit → sProp 𝕄) (O : CellTallies nD τ sig Unit) :
    iprop(ctx m K ∗ halfP c (qOf (xn c)) (hy c) (result m (zOf c)) ∗ (∃ f, halfP (yn c) (qOf (xn c)) (hy c) f) ∗ ow c (O + dueFY c)
        ∗ dutyTok ER (kcell (c, fw 2)) 0 0 ∗ dutyTok ER (kcell (yn c, fw 3)) 0 0)
      ⊢ iprop((iprop(cred (tallyAt (kcell (c, fw 2)) () NH) ∗ ow c O) -∗ WP c k Q)
          -∗ WP c (forward (yn c) cc0_scratch14.sem cc0_scratch15.sem (qOf (xn c)) (hy c) k) Q) := by
  iintro ⟨#HC, Hs, ⟨%fd, Hd⟩, HO, Ht⟩ Hk
  iapply (wp_send_cell m K c (yn c) (.inr 2) (.inr 3) (src := halfV (qOf (xn c)) (hy c)) (dst := halfV (qOf (xn c)) (hy c))
    (result m (zOf c)) fd (half_credit _ _) rfl O .rfl
    (Entails.of_eq ((landed_eq (halfV (qOf (xn c)) (hy c)) (yn c) fullShare fd (result m (zOf c)) _ rfl).trans
      (by show _ = halfP (yn c) (qOf (xn (yn (yn c)))) (hx (yn c)) (result m (zOf (yn c)))
          rw [yn_yn, hx_yn, zOf_yn])))) $$ [Hs Hd HO Ht]
  · isplitr; · iexact HC
    isplitl [Hs]; · iexact Hs
    isplitl [Hd]; · iexact Hd
    isplitl [HO]; · iexact HO
    iexact Ht
  iexact Hk

/-- The wait for a forwarded half, sent or received. -/
theorem wp_waitFw (c : Dev nD) (a : Fin 4) (q : Fin 4) (h : Fin 2) (k : TProg F) (Q : PUnit → sProp 𝕄)
    (O : CellTallies nD τ sig Unit) (hO : Above 4 O) :
    iprop(ctx m K ∗ cred (tallyAt (kcell (c, fw a)) () NH) ∗ ow c O ∗ atPos ER (kcell (c, fw a)) 0 ∅ 0)
      ⊢ iprop((iprop(pay m c (fw a) 0 ∗ ow c O ∗ semVal (kcell (c, fw a)) 0) -∗ WP c k Q)
          -∗ WP c (waitHalf (far a) q h k) Q) :=
  wp_wait_cell m K c (.inr a) (far a) rfl (half_credit q h) O 4 (by revert a; decide) hO

end Cert.Gather

end
-- ==== Proof.Stages.lean ====
/-
# One chunk of each phase, and the phases

A step of the first phase sends a chunk to the partner; a step of the second sums a chunk and sends the sum to both
neighbours and into the device's own result; the gathering waits for the neighbours' chunks and forwards halves; a last
step per chunk waits for its own copies. Each is proved once, for any device and any chunk.
-/
module

public import proofs.«01_k».proof.Proof.Moves

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : Mem F) (K : Dev nD × CK → ℕ)

/-! ## The staged loads -/

/-- The slot of the load number `n`. -/
def slotN (n : ℕ) : Fin 2 := ⟨n % 2, Nat.mod_lt _ (by decide)⟩

/-- The slots alternate. -/
theorem slotN_two (n : ℕ) : slotN (n + 2) = slotN n := Fin.ext (Nat.add_mod_right n 2)

/-- Load number `n` is in flight, or its slot is free when there is no chunk `n`. -/
def fly (c : Dev nD) (z : Fin 2) (q : Fin 4) (n : ℕ) : sProp 𝕄 :=
  if h : n < 16 then inFlight m c z q ⟨n, h⟩ else slotFree c (slotN n)

/-- Before chunk `n`: its load is in flight and the other slot is free. -/
def staged (c : Dev nD) (z : Fin 2) (q : Fin 4) (n : ℕ) : sProp 𝕄 :=
  iprop(xAny m c ∗ fly m c z q n ∗ slotFree c (slotN (n + 1)))

/-- Below sixteen, the load in flight is the chunk's. -/
theorem fly_lt (c : Dev nD) (z : Fin 2) (q : Fin 4) (r : Fin 16) : fly m c z q r.val = inFlight m c z q r := dif_pos r.isLt

/-- With the next load under way and the chunk's own slot free again, the slots are as the next chunk expects them. -/
theorem staged_next (c : Dev nD) (z : Fin 2) (q : Fin 4) (r : Fin 16) :
    iprop(xAny m c ∗ fly m c z q (r.val + 1) ∗ slotFree c (slotOf r)) ⊢ staged m c z q (r.val + 1) := by
  unfold staged
  rw [show r.val + 1 + 1 = r.val + 2 from rfl, slotN_two]
  exact .rfl

/-- After the last chunk both slots are free. -/
theorem staged_end (c : Dev nD) (z : Fin 2) (q : Fin 4) :
    staged m c z q 16 ⊢ iprop(xAny m c ∗ slotFree c 0 ∗ slotFree c 1) := by
  unfold staged fly
  rw [dif_neg (by decide)]
  exact .rfl

/-- The load of the next chunk is started, and the chunk's own is waited for. -/
theorem wp_stage (c : Dev nD) (z : Fin 2) (q : Fin 4) (r : Fin 16) (k : TProg F) (Q : PUnit → sProp 𝕄)
    (O : CellTallies nD τ sig Unit) (hO : Above 0 O) :
    iprop(ctx m K ∗ staged m c z q r.val ∗ ow c O)
      ⊢ iprop((iprop(xAny m c ∗ fly m c z q (r.val + 1) ∗ loaded m c z q r ∗ ow c O) -∗ WP c k Q)
          -∗ WP c (loadNext z q r (waitX z q r k)) Q) := by
  unfold staged
  rw [fly_lt]
  by_cases h : r.val + 1 < 16
  · unfold loadNext
    rw [dif_pos h]
    iintro ⟨#HC, ⟨Hx, HF, Hs⟩, HO⟩ Hk
    iapply (wp_loadX m c z q ⟨r.val + 1, h⟩) $$ [Hx Hs]
    · isplitl [Hx]; · iexact Hx
      iexact Hs
    iintro ⟨Hx, HF'⟩
    iapply (wp_waitX m K c z q r k Q O hO) $$ [HF HO]
    · isplitr; · iexact HC
      isplitl [HF] <;> iassumption
    iintro ⟨Hl, HO⟩
    iapply Hk
    isplitl [Hx]; · iexact Hx
    isplitl [HF']
    · unfold fly; rw [dif_pos h]; iexact HF'
    isplitl [Hl] <;> iassumption
  · unfold loadNext
    rw [dif_neg h]
    iintro ⟨#HC, ⟨Hx, HF, Hs⟩, HO⟩ Hk
    iapply (wp_waitX m K c z q r k Q O hO) $$ [HF HO]
    · isplitr; · iexact HC
      isplitl [HF] <;> iassumption
    iintro ⟨Hl, HO⟩
    iapply Hk
    isplitl [Hx]; · iexact Hx
    isplitl [Hs]
    · unfold fly; rw [dif_neg h]; iexact Hs
    isplitl [Hl] <;> iassumption

/-- The first load of a phase. -/
theorem wp_first (c : Dev nD) (z : Fin 2) (q : Fin 4) (k : TProg F) (Q : PUnit → sProp 𝕄) :
    iprop(xAny m c ∗ slotFree c 0 ∗ slotFree c 1)
      ⊢ iprop((staged m c z q 0 -∗ WP c k Q) -∗ WP c (loadX z q 0 k) Q) := by
  iintro ⟨Hx, H0, H1⟩ Hk
  iapply (wp_loadX m c z q 0) $$ [Hx H0]
  · isplitl [Hx]; · iexact Hx
    iexact H0
  iintro ⟨Hx, HF⟩
  iapply Hk
  unfold staged
  isplitl [Hx]; · iexact Hx
  isplitl [HF]
  · iapply (Entails.of_eq (fly_lt m c z q 0).symm); iexact HF
  iexact H1

/-! ## The first phase -/

/-- What chunk `r` of the first phase takes, -/
def aPre (c : Dev nD) (r : Fin 16) : sProp (MT nD τ sig Unit (Elt F) ℕ UU ℕ) :=
  iprop((∃ f, vsP c r f) ∗ (∃ f, rzP (zp c) r f) ∗ dutyTok ER (kcell (c, ck 0 r)) 0 0 ∗ dutyTok ER (kcell (zp c, ck 1 r)) 0 0)
/-- and what it leaves. -/
def aPost (c : Dev nD) (r : Fin 16) : sProp (MT nD τ sig Unit (Elt F) ℕ UU ℕ) := cred (tallyAt (kcell (c, ck 0 r)) () NC)
/-- The state between the chunks sent to the partner. -/
def aState (c : Dev nD) (n : ℕ) : sProp 𝕄 :=
  iprop(staged m c (zOf (zp c)) (qOf c) n ∗ ow c (owC c + owB c 0 + owA c n))

/-- One chunk is loaded, rounded, stored and sent to the partner. -/
theorem step_a (c : Dev nD) (r : Fin 16) (k : TProg F) (Q : PUnit → sProp 𝕄) :
    iprop(ctx m K ∗ aPre c r ∗ aState m c r.val)
      ⊢ iprop((iprop(aPost c r ∗ aState m c (r.val + 1)) -∗ WP c k Q) -∗ WP c (stepA c r k) Q) := by
  unfold aPre aPost aState
  iintro ⟨#HC, ⟨Hv, Hz, Ht⟩, HS, HO⟩ Hk
  iapply (wp_stage m K c (zOf (zp c)) (qOf c) r _ Q (owC c + owB c 0 + owA c r.val)
    ((((owC_above c).mono (by decide)).add ((owB_above c 0).mono (by decide))).add ((owA_above c _).mono (by decide)))) $$ [HS HO]
  · isplitr; · iexact HC
    isplitl [HS] <;> iassumption
  iintro ⟨Hx, HF, Hl, HO⟩
  iapply (wp_readX m c (zOf (zp c)) (qOf c) r) $$ Hl
  iintro %v %hv Hfree
  iapply (wp_storeZ m c r (sendVal v) (sendVal_eq v _ hv)) $$ Hv
  iintro Hv
  rw [show owA c r.val = owA c (r.val + 1) + dueZ c r from owFrom_peel _ r, ← add_assoc]
  iapply (wp_sendZ m K c r k Q (owC c + owB c 0 + owA c (r.val + 1))) $$ [Hv Hz HO Ht]
  · isplitr; · iexact HC
    isplitl [Hv]; · iexact Hv
    isplitl [Hz]; · iexact Hz
    isplitl [HO]; · iexact HO
    iexact Ht
  iintro ⟨Hc, HO⟩
  iapply Hk
  isplitl [Hc]; · iexact Hc
  isplitr [HO]
  · iapply (staged_next m c (zOf (zp c)) (qOf c) r)
    isplitl [Hx]; · iexact Hx
    isplitl [HF] <;> iassumption
  iexact HO

/-! ## The second phase -/

/-- What chunk `r` of the second phase takes, -/
def bPre (c : Dev nD) (r : Fin 16) : sProp (MT nD τ sig Unit (Elt F) ℕ UU ℕ) :=
  iprop((cred (tallyAt (kcell (c, ck 1 r)) () NC) ∗ atPos ER (kcell (c, ck 1 r)) 0 ∅ 0)
    ∗ (∃ f, vpP c fullShare r f) ∗ (∃ f, outP (xn c) (qOf c) r f) ∗ (∃ f, outP (yn c) (qOf c) r f) ∗ (∃ f, outP c (qOf c) r f)
    ∗ (dutyTok ER (kcell (c, ck 2 r)) 0 0 ∗ dutyTok ER (kcell (xn c, ck 3 r)) 0 0)
    ∗ (dutyTok ER (kcell (c, ck 4 r)) 0 0 ∗ dutyTok ER (kcell (yn c, ck 5 r)) 0 0)
    ∗ semVal ((c.tc : Thread nD τ), .dma (semAt cc0_scratch5 r)) 0)
/-- and what it leaves. -/
def bPost (c : Dev nD) (r : Fin 16) : sProp 𝕄 :=
  iprop((rzP c r (sentBuf m (zp c)) ∗ semVal (kcell (c, ck 1 r)) 0)
    ∗ cred (tallyAt (kcell (c, ck 2 r)) () NC) ∗ cred (tallyAt (kcell (c, ck 4 r)) () NC) ∗ copying m c r)
/-- The state between the chunks summed. -/
def bState (c : Dev nD) (n : ℕ) : sProp 𝕄 :=
  iprop(staged m c (zOf c) (qOf c) n ∗ ow c (owC c + owB c n))

/-- One chunk is loaded, added to the partner's, stored, sent along x and y and copied into the own result. -/
theorem step_b (c : Dev nD) (r : Fin 16) (k : TProg F) (Q : PUnit → sProp 𝕄) :
    iprop(ctx m K ∗ bPre c r ∗ bState m c r.val)
      ⊢ iprop((iprop(bPost m c r ∗ bState m c (r.val + 1)) -∗ WP c k Q) -∗ WP c (stepB c r k) Q) := by
  unfold bPre bPost bState
  iintro ⟨#HC, ⟨⟨Hcr, Hat⟩, Hp, HdX, HdY, HdO, HtX, HtY, Hsem⟩, HS, HO⟩ Hk
  have hab : Above 2 (owC c + owB c r.val) := ((owC_above c).mono (by decide)).add (owB_above c _)
  iapply (wp_stage m K c (zOf c) (qOf c) r _ Q (owC c + owB c r.val) (hab.mono (by decide))) $$ [HS HO]
  · isplitr; · iexact HC
    isplitl [HS] <;> iassumption
  iintro ⟨Hx, HF, Hl, HO⟩
  iapply (wp_waitZ m K c r _ Q (owC c + owB c r.val) hab) $$ [Hcr Hat HO]
  · isplitr; · iexact HC
    isplitl [Hcr]; · iexact Hcr
    isplitl [HO] <;> iassumption
  iintro ⟨Hz, HO, Hsz⟩
  iapply (wp_readX m c (zOf c) (qOf c) r) $$ Hl
  iintro %v %hv Hfree
  iapply (wp_readZ m c r) $$ Hz
  iintro Hz
  iapply (wp_storeP m c r _ (sumVal_eq v _ _ _ hv (shapeCast_shapeCast _ _ _))) $$ Hp
  iintro ⟨H1, H2, H3⟩
  rw [show owB c r.val = owB c (r.val + 1) + (dueY c r + dueX c r) from owFrom_peel _ r, ← add_assoc, ← add_assoc]
  iapply (wp_sendX m K c r _ Q (owC c + owB c (r.val + 1) + dueY c r)) $$ [H1 HdX HO HtX]
  · isplitr; · iexact HC
    isplitl [H1]; · iexact H1
    isplitl [HdX]; · iexact HdX
    isplitl [HO]; · iexact HO
    iexact HtX
  iintro ⟨HcX, HO⟩
  iapply (wp_sendY m K c r _ Q (owC c + owB c (r.val + 1))) $$ [H2 HdY HO HtY]
  · isplitr; · iexact HC
    isplitl [H2]; · iexact H2
    isplitl [HdY]; · iexact HdY
    isplitl [HO]; · iexact HO
    iexact HtY
  iintro ⟨HcY, HO⟩
  iapply (wp_copyOut m c r) $$ [H3 HdO Hsem]
  · isplitl [H3]; · iexact H3
    isplitl [HdO] <;> iassumption
  iintro Hcp
  iapply Hk
  isplitl [Hz Hsz HcX HcY Hcp]
  · isplitl [Hz Hsz]
    · isplitl [Hz] <;> iassumption
    isplitl [HcX]; · iexact HcX
    isplitl [HcY] <;> iassumption
  isplitr [HO]
  · iapply (staged_next m c (zOf c) (qOf c) r)
    isplitl [Hx]; · iexact Hx
    isplitl [HF] <;> iassumption
  iexact HO

/-! ## The last waits -/

/-- What chunk `r`'s last waits take, -/
def ePre (c : Dev nD) (r : Fin 16) : sProp 𝕄 :=
  iprop(copying m c r ∗ (cred (tallyAt (kcell (c, ck 0 r)) () NC) ∗ atPos ER (kcell (c, ck 0 r)) 0 ∅ 0)
    ∗ (cred (tallyAt (kcell (c, ck 2 r)) () NC) ∗ atPos ER (kcell (c, ck 2 r)) 0 ∅ 0)
    ∗ (cred (tallyAt (kcell (c, ck 4 r)) () NC) ∗ atPos ER (kcell (c, ck 4 r)) 0 ∅ 0))
/-- and what they leave. -/
def ePost (c : Dev nD) (r : Fin 16) : sProp 𝕄 :=
  iprop(outP c (qOf c) r (result m (zOf c)) ∗ vsP c r (sentBuf m c) ∗ vpP c fullShare r (partBuf m c)
    ∗ semVal ((c.tc : Thread nD τ), .dma (semAt cc0_scratch5 r)) 0
    ∗ semVal (kcell (c, ck 0 r)) 0 ∗ semVal (kcell (c, ck 2 r)) 0 ∗ semVal (kcell (c, ck 4 r)) 0)

/-- One chunk's four copies are waited for. -/
theorem step_e (c : Dev nD) (r : Fin 16) (k : TProg F) (Q : PUnit → sProp 𝕄) :
    iprop(ctx m K ∗ ePre m c r ∗ ow c 0)
      ⊢ iprop((iprop(ePost m c r ∗ ow c 0) -∗ WP c k Q) -∗ WP c (stepE c r k) Q) := by
  unfold ePre ePost
  iintro ⟨#HC, ⟨Hcp, ⟨Hc0, Ha0⟩, ⟨Hc2, Ha2⟩, ⟨Hc4, Ha4⟩⟩, HO⟩ Hk
  iapply (wp_waitCopy m K c r _ Q 0 (Above.zero 0)) $$ [Hcp HO]
  · isplitr; · iexact HC
    isplitl [Hcp] <;> iassumption
  iintro ⟨Ho, H3, Hs5, HO⟩
  iapply (wp_waitSentZ m K c r _ Q 0 (Above.zero 0)) $$ [Hc0 HO Ha0]
  · isplitr; · iexact HC
    isplitl [Hc0]; · iexact Hc0
    isplitl [HO] <;> iassumption
  iintro ⟨Hv, HO, Hs0⟩
  iapply (wp_waitSentX m K c r _ Q 0 (Above.zero 0)) $$ [Hc2 HO Ha2]
  · isplitr; · iexact HC
    isplitl [Hc2]; · iexact Hc2
    isplitl [HO] <;> iassumption
  iintro ⟨H1, HO, Hs2⟩
  iapply (wp_waitSentY m K c r _ Q 0 (Above.zero 0)) $$ [Hc4 HO Ha4]
  · isplitr; · iexact HC
    isplitl [Hc4]; · iexact Hc4
    isplitl [HO] <;> iassumption
  iintro ⟨H2, HO, Hs4⟩
  iapply Hk
  isplitr [HO]
  · isplitl [Ho]; · iexact Ho
    isplitl [Hv]; · iexact Hv
    isplitl [H1 H2 H3]
    · iapply (vp_join m c r)
      isplitl [H1]; · iexact H1
      isplitl [H2] <;> iassumption
    isplitl [Hs5]; · iexact Hs5
    isplitl [Hs0]; · iexact Hs0
    isplitl [Hs2] <;> iassumption
  iexact HO

/-! ## The gathering -/

/-- A family over a set with one more member. -/
theorem bigSep_cons {α : Type} [DecidableEq α] {s : Finset α} {a : α} (h : a ∉ s) (Φ : α → sProp 𝕄) :
    bigSep (insert a s) Φ = iprop(Φ a ∗ bigSep s Φ) := BI.bigSep_insert h
/-- A family of pairs is a pair of families. -/
theorem bigSep_pair {α : Type} (s : Finset α) (Φ Ψ : α → sProp 𝕄) :
    (bigSep s fun a => iprop(Φ a ∗ Ψ a)) = iprop(bigSep s Φ ∗ bigSep s Ψ) := BI.bigSep_sep s Φ Ψ

/-- A loop of independent steps: each takes its `P a` to its `R a` and keeps `S`. -/
theorem fold_each {α : Type} [DecidableEq α] (c : Dev nD) (Q : PUnit → sProp 𝕄) (f : α → TProg F → TProg F) (C : sProp 𝕄)
    [BI.Persistent C] (P R : α → sProp 𝕄) (S : sProp 𝕄)
    (h : ∀ a k, iprop(C ∗ P a ∗ S) ⊢ iprop((iprop(R a ∗ S) -∗ WP c k Q) -∗ WP c (f a k) Q)) (l : List α) (hl : l.Nodup) (k : TProg F) :
    iprop(C ∗ bigSep l.toFinset P ∗ S) ⊢ iprop((iprop(bigSep l.toFinset R ∗ S) -∗ WP c k Q) -∗ WP c (l.foldr f k) Q) := by
  induction l with
  | nil =>
    iintro ⟨-, HP, HS⟩ Hk
    iapply Hk
    isplitl [HP]; · iexact HP
    iexact HS
  | cons a l ih =>
    have ha : a ∉ l.toFinset := fun h' => (List.nodup_cons.mp hl).1 (List.mem_toFinset.mp h')
    rw [List.toFinset_cons, bigSep_cons ha, bigSep_cons ha, List.foldr_cons]
    iintro ⟨#HC, ⟨HPa, HP⟩, HS⟩ Hk
    iapply (h a (l.foldr f k)) $$ [HPa HS]
    · isplitr; · iexact HC
      isplitl [HPa] <;> iassumption
    iintro ⟨HRa, HS⟩
    iapply (ih (List.nodup_cons.mp hl).2) $$ [HP HS]
    · isplitr; · iexact HC
      isplitl [HP] <;> iassumption
    iintro ⟨HR, HS⟩
    iapply Hk
    isplitl [HRa HR]
    · isplitl [HRa] <;> iassumption
    iexact HS

/-- The right to wait once on a cell. -/
def due (c : Dev nD) (k : CK) : sProp (MT nD τ sig Unit (Elt F) ℕ UU ℕ) :=
  iprop(cred (tallyAt (kcell (c, k)) () (amt k)) ∗ atPos ER (kcell (c, k)) 0 ∅ 0)

/-- The eight chunks of a half of a quarter, as the half. -/
theorem half_join (c : Dev nD) (q : Fin 4) (h : Fin 2) (f : S16384x1024.Idx → Elt F .bf16) :
    (bigSep Finset.univ fun j : Fin 8 => outP c q (chunkOf h j) f) = halfP c q h f := by
  have e := pointsTo_biUnion (Ix := Unit) (Name := ℕ) (U := UU) (Lvl := ℕ) (ℓ := (c.tc : Thread nD τ).loc main_v1) (q := fullShare) (f := f) Finset.univ (fun j : Fin 8 => (outR q (chunkOf h j)).set)
    fun j _ j' _ hne => outs_disjoint q _ _ fun he => hne (Fin.ext (by have := congrArg Fin.val he; simp only [chunkOf] at this; omega))
  rw [half_cover q h] at e
  exact (bigSep_congr fun j _ => congrArg (fun S => ((c.tc : Thread nD τ).loc main_v1 ↦[S]{fullShare} f : sProp 𝕄)) (out_set q (chunkOf h j))).trans
    (e.symm.trans (congrArg (fun S => ((c.tc : Thread nD τ).loc main_v1 ↦[S]{fullShare} f : sProp 𝕄)) (half_set q h).symm))

/-- The eight chunks of a half of the y neighbour's quarter are waited for, and make up the half. -/
theorem wp_chunksY (c : Dev nD) (h : Fin 2) (k : TProg F) (Q : PUnit → sProp 𝕄) (O : CellTallies nD τ sig Unit) (hO : Above 3 O) :
    iprop(ctx m K ∗ (bigSep Finset.univ fun j : Fin 8 => due c (ck 5 (chunkOf h j))) ∗ ow c O)
      ⊢ iprop((iprop((halfP c (qOf (yn c)) h (result m (zOf c)) ∗ bigSep Finset.univ fun j : Fin 8 => semVal (kcell (c, ck 5 (chunkOf h j))) 0) ∗ ow c O) -∗ WP c k Q)
          -∗ WP c (waitChunks cc0_scratch11 (qOf (yn c)) h k) Q) := by
  have e := fold_each c Q (fun j k => waitOut (F := F) cc0_scratch11 (qOf (yn c)) (chunkOf h j) k) (ctx m K)
    (fun j : Fin 8 => due c (ck 5 (chunkOf h j)))
    (fun j => iprop(outP c (qOf (yn c)) (chunkOf h j) (result m (zOf c)) ∗ semVal (kcell (c, ck 5 (chunkOf h j))) 0)) (ow c O)
    (fun j k => by
      unfold due
      iintro ⟨#HC, ⟨Hc, Ha⟩, HO⟩ Hk
      iapply (wp_waitOutY m K c (chunkOf h j) k Q O hO) $$ [Hc HO Ha]
      · isplitr; · iexact HC
        isplitl [Hc]; · iexact Hc
        isplitl [HO] <;> iassumption
      iintro ⟨Ho, HO, Hs⟩
      iapply Hk
      isplitr [HO]
      · isplitl [Ho] <;> iassumption
      iexact HO) halfChunks (by decide) k
  rw [show (halfChunks.toFinset : Finset (Fin 8)) = Finset.univ by decide, bigSep_pair, half_join] at e
  exact e

/-- The eight chunks of a half of the x neighbour's quarter are waited for, and make up the half. -/
theorem wp_chunksX (c : Dev nD) (h : Fin 2) (k : TProg F) (Q : PUnit → sProp 𝕄) (O : CellTallies nD τ sig Unit) (hO : Above 3 O) :
    iprop(ctx m K ∗ (bigSep Finset.univ fun j : Fin 8 => due c (ck 3 (chunkOf h j))) ∗ ow c O)
      ⊢ iprop((iprop((halfP c (qOf (xn c)) h (result m (zOf c)) ∗ bigSep Finset.univ fun j : Fin 8 => semVal (kcell (c, ck 3 (chunkOf h j))) 0) ∗ ow c O) -∗ WP c k Q)
          -∗ WP c (waitChunks cc0_scratch9 (qOf (xn c)) h k) Q) := by
  have e := fold_each c Q (fun j k => waitOut (F := F) cc0_scratch9 (qOf (xn c)) (chunkOf h j) k) (ctx m K)
    (fun j : Fin 8 => due c (ck 3 (chunkOf h j)))
    (fun j => iprop(outP c (qOf (xn c)) (chunkOf h j) (result m (zOf c)) ∗ semVal (kcell (c, ck 3 (chunkOf h j))) 0)) (ow c O)
    (fun j k => by
      unfold due
      iintro ⟨#HC, ⟨Hc, Ha⟩, HO⟩ Hk
      iapply (wp_waitOutX m K c (chunkOf h j) k Q O hO) $$ [Hc HO Ha]
      · isplitr; · iexact HC
        isplitl [Hc]; · iexact Hc
        isplitl [HO] <;> iassumption
      iintro ⟨Ho, HO, Hs⟩
      iapply Hk
      isplitr [HO]
      · isplitl [Ho] <;> iassumption
      iexact HO) halfChunks (by decide) k
  rw [show (halfChunks.toFinset : Finset (Fin 8)) = Finset.univ by decide, bigSep_pair, half_join] at e
  exact e

/-- What the gathering takes, -/
def gPre (c : Dev nD) : sProp (MT nD τ sig Unit (Elt F) ℕ UU ℕ) :=
  iprop((bigSep Finset.univ fun j : Fin 8 => due c (ck 5 (chunkOf (hx c) j))) ∗ (bigSep Finset.univ fun j : Fin 8 => due c (ck 3 (chunkOf (hy c) j)))
    ∗ (bigSep Finset.univ fun j : Fin 8 => due c (ck 5 (chunkOf (hy c) j))) ∗ (bigSep Finset.univ fun j : Fin 8 => due c (ck 3 (chunkOf (hx c) j)))
    ∗ ((∃ f, halfP (xn c) (qOf (yn c)) (hx c) f) ∗ ∃ f, halfP (yn c) (qOf (xn c)) (hy c) f)
    ∗ (dutyTok ER (kcell (c, fw 0)) 0 0 ∗ dutyTok ER (kcell (xn c, fw 1)) 0 0)
    ∗ (dutyTok ER (kcell (c, fw 2)) 0 0 ∗ dutyTok ER (kcell (yn c, fw 3)) 0 0)
    ∗ due c (fw 1) ∗ due c (fw 3))
/-- and what it leaves. -/
def gPost (c : Dev nD) : sProp 𝕄 :=
  iprop((halfP c (qOf (yn c)) (hy c) (result m (zOf c)) ∗ halfP c (qOf (xn c)) (hx c) (result m (zOf c))
      ∗ halfP c (qOf (xn (yn c))) (hy c) (result m (zOf c)) ∗ halfP c (qOf (xn (yn c))) (hx c) (result m (zOf c)))
    ∗ ((bigSep Finset.univ fun j : Fin 8 => semVal (kcell (c, ck 5 (chunkOf (hx c) j))) 0) ∗ (bigSep Finset.univ fun j : Fin 8 => semVal (kcell (c, ck 5 (chunkOf (hy c) j))) 0))
    ∗ ((bigSep Finset.univ fun j : Fin 8 => semVal (kcell (c, ck 3 (chunkOf (hx c) j))) 0) ∗ (bigSep Finset.univ fun j : Fin 8 => semVal (kcell (c, ck 3 (chunkOf (hy c) j))) 0))
    ∗ (semVal (kcell (c, fw 1)) 0 ∗ semVal (kcell (c, fw 3)) 0)
    ∗ cred (tallyAt (kcell (c, fw 0)) () NH) ∗ cred (tallyAt (kcell (c, fw 2)) () NH))

/-- The neighbours' quarters are waited for and forwarded by halves, and the diagonal quarter is waited for. -/
theorem step_gather (c : Dev nD) (k : TProg F) (Q : PUnit → sProp 𝕄) :
    iprop(ctx m K ∗ gPre c ∗ ow c (owC c))
      ⊢ iprop((iprop(gPost m c ∗ ow c 0) -∗ WP c k Q) -∗ WP c (gatherP c k) Q) := by
  have hFY : Above 3 (dueFY c) := Above.cell _ _ _ (by show 3 < 4; decide)
  unfold gPre gPost
  iintro ⟨#HC, ⟨HY1, HX1, HY2, HX2, ⟨HdX, HdY⟩, HtX, HtY, Hw1, Hw3⟩, HO⟩ Hk
  iapply (wp_chunksY m K c (hx c) _ Q (owC c) (owC_above c)) $$ [HY1 HO]
  · isplitr; · iexact HC
    isplitl [HY1] <;> iassumption
  iintro ⟨⟨Hh, HsY1⟩, HO⟩
  unfold owC
  iapply (wp_forwardX m K c _ Q (dueFY c)) $$ [Hh HdX HO HtX]
  · isplitr; · iexact HC
    isplitl [Hh]; · iexact Hh
    isplitl [HdX]; · iexact HdX
    isplitl [HO] <;> iassumption
  iintro ⟨Hc0, HO⟩
  iapply (wp_chunksX m K c (hy c) _ Q (dueFY c) hFY) $$ [HX1 HO]
  · isplitr; · iexact HC
    isplitl [HX1] <;> iassumption
  iintro ⟨⟨Hh, HsX1⟩, HO⟩
  rw [show dueFY c = 0 + dueFY c from (zero_add _).symm]
  iapply (wp_forwardY m K c _ Q 0) $$ [Hh HdY HO HtY]
  · isplitr; · iexact HC
    isplitl [Hh]; · iexact Hh
    isplitl [HdY]; · iexact HdY
    isplitl [HO] <;> iassumption
  iintro ⟨Hc2, HO⟩
  iapply (wp_chunksY m K c (hy c) _ Q 0 (Above.zero 3)) $$ [HY2 HO]
  · isplitr; · iexact HC
    isplitl [HY2] <;> iassumption
  iintro ⟨⟨HhY, HsY2⟩, HO⟩
  iapply (wp_chunksX m K c (hx c) _ Q 0 (Above.zero 3)) $$ [HX2 HO]
  · isplitr; · iexact HC
    isplitl [HX2] <;> iassumption
  iintro ⟨⟨HhX, HsX2⟩, HO⟩
  unfold due
  icases Hw1 with ⟨Hcr1, Hat1⟩
  icases Hw3 with ⟨Hcr3, Hat3⟩
  iapply (wp_waitFw m K c 1 (qOf (xn (yn c))) (hy c) _ Q 0 (Above.zero 4)) $$ [Hcr1 HO Hat1]
  · isplitr; · iexact HC
    isplitl [Hcr1]; · iexact Hcr1
    isplitl [HO] <;> iassumption
  iintro ⟨Hp1, HO, Hs1⟩
  iapply (wp_waitFw m K c 3 (qOf (xn (yn c))) (hx c) _ Q 0 (Above.zero 4)) $$ [Hcr3 HO Hat3]
  · isplitr; · iexact HC
    isplitl [Hcr3]; · iexact Hcr3
    isplitl [HO] <;> iassumption
  iintro ⟨Hp3, HO, Hs3⟩
  iapply Hk
  isplitr [HO]
  · isplitl [HhY HhX Hp1 Hp3]
    · isplitl [HhY]; · iexact HhY
      isplitl [HhX]; · iexact HhX
      isplitl [Hp1]
      · iapply (Entails.of_eq (show pay m c (fw 1) 0 = halfP c (qOf (xn (yn c))) (hy c) (result m (zOf c)) from rfl)); iexact Hp1
      iapply (Entails.of_eq (show pay m c (fw 3) 0 = halfP c (qOf (xn (yn c))) (hx c) (result m (zOf c)) from rfl)); iexact Hp3
    isplitl [HsY1 HsY2]
    · isplitl [HsY1] <;> iassumption
    isplitl [HsX1 HsX2]
    · isplitl [HsX2] <;> iassumption
    isplitl [Hs1 Hs3]
    · isplitl [Hs1] <;> iassumption
    isplitl [Hc0] <;> iassumption
  iexact HO

end Cert.Gather

end
-- ==== Proof.Body.lean ====
/-
# The whole body on one device

A device starts with its input, its result, its buffers, its places at every cell and the tokens of the duties it pays.
It ends with its result holding the sum, its input as it was, and every semaphore at zero.
-/
module

public import proofs.«01_k».proof.Proof.Stages

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : Mem F) (K : Dev nD × CK → ℕ)

/-! ## Whole buffers and their chunks -/

/-- The sixteen chunks of the send buffer are the whole buffer. -/
theorem vs_join (c : Dev nD) (f : S16x256x1024.Idx → Elt F .bf16) :
    (bigSep Finset.univ fun r : Fin 16 => vsP c r f) = ((c.tc : Thread nD τ).loc cc0_scratch1 ↦{fullShare} f : sProp 𝕄) := by
  have e := pointsTo_biUnion (Ix := Unit) (Name := ℕ) (U := UU) (Lvl := ℕ) (ℓ := (c.tc : Thread nD τ).loc cc0_scratch1) (q := fullShare) (f := f)
    Finset.univ (fun r : Fin 16 => (chunkR r).set) fun r _ r' _ hne => chunks_disjoint r r' hne
  rw [chunks_cover] at e
  exact (bigSep_congr fun r _ => congrArg (fun S => ((c.tc : Thread nD τ).loc cc0_scratch1 ↦[S]{fullShare} f : sProp 𝕄)) (vs_set r)).trans e.symm
/-- The sixteen chunks of the receive buffer are the whole buffer. -/
theorem rz_join (c : Dev nD) (f : S16x256x1024.Idx → Elt F .bf16) :
    (bigSep Finset.univ fun r : Fin 16 => rzP c r f) = ((c.tc : Thread nD τ).loc cc0_scratch2 ↦{fullShare} f : sProp 𝕄) := by
  have e := pointsTo_biUnion (Ix := Unit) (Name := ℕ) (U := UU) (Lvl := ℕ) (ℓ := (c.tc : Thread nD τ).loc cc0_scratch2) (q := fullShare) (f := f)
    Finset.univ (fun r : Fin 16 => (chunkR r).set) fun r _ r' _ hne => chunks_disjoint r r' hne
  rw [chunks_cover] at e
  exact (bigSep_congr fun r _ => congrArg (fun S => ((c.tc : Thread nD τ).loc cc0_scratch2 ↦[S]{fullShare} f : sProp 𝕄)) (rz_set r)).trans e.symm
/-- The sixteen chunks of the summed quarter are the whole buffer. -/
theorem parts_join (c : Dev nD) (f : S16x256x1024.Idx → Elt F .bf16) :
    (bigSep Finset.univ fun r : Fin 16 => vpP c fullShare r f) = ((c.tc : Thread nD τ).loc cc0_scratch3 ↦{fullShare} f : sProp 𝕄) := by
  have e := pointsTo_biUnion (Ix := Unit) (Name := ℕ) (U := UU) (Lvl := ℕ) (ℓ := (c.tc : Thread nD τ).loc cc0_scratch3) (q := fullShare) (f := f)
    Finset.univ (fun r : Fin 16 => (chunkR r).set) fun r _ r' _ hne => chunks_disjoint r r' hne
  rw [chunks_cover] at e
  exact (bigSep_congr fun r _ => congrArg (fun S => ((c.tc : Thread nD τ).loc cc0_scratch3 ↦[S]{fullShare} f : sProp 𝕄)) (vp_set r)).trans e.symm

/-- The two staging slots make up their buffer, whatever they hold. -/
theorem vf_split (c : Dev nD) (f : S2x256x1024.Idx → Elt F .f32) :
    ((c.tc : Thread nD τ).loc cc0_scratch0 ↦{fullShare} f : sProp 𝕄) ⊢ iprop(vfP c 0 f ∗ vfP c 1 f) := by
  have e := pointsTo_biUnion (Ix := Unit) (Name := ℕ) (U := UU) (Lvl := ℕ) (ℓ := (c.tc : Thread nD τ).loc cc0_scratch0) (q := fullShare) (f := f)
    Finset.univ (fun b : Fin 2 => (slotR b).set) fun r _ r' _ hne => slots_disjoint r r' hne
  rw [slots_cover, bigSep_fin_two] at e
  refine (Entails.of_eq e).trans ?_
  exact BIClass.sep_mono (Entails.of_eq (congrArg (fun S => ((c.tc : Thread nD τ).loc cc0_scratch0 ↦[S]{fullShare} f : sProp 𝕄)) (vf_set 0).symm))
    (Entails.of_eq (congrArg (fun S => ((c.tc : Thread nD τ).loc cc0_scratch0 ↦[S]{fullShare} f : sProp 𝕄)) (vf_set 1).symm))
/-- The two staging slots, whatever each holds, are the whole staging buffer at some contents. -/
theorem vf_rejoin (c : Dev nD) (f g : S2x256x1024.Idx → Elt F .f32) :
    iprop(vfP c 0 f ∗ vfP c 1 g) ⊢ (iprop(∃ h, (c.tc : Thread nD τ).loc cc0_scratch0 ↦{fullShare} h) : sProp 𝕄) := by
  have e := pointsTo_biUnion_join (Ix := Unit) (Name := ℕ) (U := UU) (Lvl := ℕ) (ℓ := (c.tc : Thread nD τ).loc cc0_scratch0) (q := fullShare)
    Finset.univ (fun b : Fin 2 => (slotR b).set) (fun b => if b = 0 then f else g) f fun r _ r' _ hne => slots_disjoint r r' hne
  rw [slots_cover, show (bigSep Finset.univ fun b : Fin 2 => ((c.tc : Thread nD τ).loc cc0_scratch0 ↦[(slotR b).set]{fullShare} (if b = 0 then f else g) : sProp 𝕄))
    = iprop(((c.tc : Thread nD τ).loc cc0_scratch0 ↦[(slotR 0).set]{fullShare} f) ∗ ((c.tc : Thread nD τ).loc cc0_scratch0 ↦[(slotR 1).set]{fullShare} g))
    from bigSep_fin_two _] at e
  iintro ⟨H0, H1⟩
  ihave H := e $$ [H0 H1]
  · isplitl [H0]
    · iapply (Entails.of_eq (congrArg (fun S => ((c.tc : Thread nD τ).loc cc0_scratch0 ↦[S]{fullShare} f : sProp 𝕄)) (vf_set 0))); iexact H0
    iapply (Entails.of_eq (congrArg (fun S => ((c.tc : Thread nD τ).loc cc0_scratch0 ↦[S]{fullShare} g : sProp 𝕄)) (vf_set 1))); iexact H1
  icases H with ⟨%h, -, H⟩
  iexists h; iexact H

/-- The quarter's sixteen chunks, as one of its halves and the other. -/
theorem chunks_halves (h h' : Fin 2) (hh : h'.val = 1 - h.val) (Φ : Fin 16 → sProp 𝕄) :
    bigSep Finset.univ Φ = iprop((bigSep Finset.univ fun j : Fin 8 => Φ (chunkOf h j)) ∗ bigSep Finset.univ fun j : Fin 8 => Φ (chunkOf h' j)) := by
  have hb : Function.Bijective (fun p : Fin 2 × Fin 8 => chunkOf p.1 p.2) := by decide
  rw [BI.bigSep_univ_equiv (Equiv.ofBijective _ hb) Φ, BI.bigSep_univ_prod,
    bigSep_univ_eq_bigSepL [h, h'] (by revert h h'; decide) (by revert h h'; decide), bigSepL_cons_cons, bigSepL_singleton]
  rfl

theorem hy_val (c : Dev nD) : (hy c).val = 1 - (hx c).val := rfl

/-- A quarter of the result, as its chunks and as its halves. -/
theorem quarter_halves (c : Dev nD) (q : Fin 4) (f : S16384x1024.Idx → Elt F .bf16) :
    (bigSep Finset.univ fun r : Fin 16 => outP c q r f) = iprop(halfP c q (hx c) f ∗ halfP c q (hy c) f) := by
  rw [chunks_halves (hx c) (hy c) (hy_val c), half_join, half_join]

/-- The whole result, as the device's own quarter, its two neighbours' and the far one's. -/
theorem out_parts (c : Dev nD) (f : S16384x1024.Idx → Elt F .bf16) :
    ((c.tc : Thread nD τ).loc main_v1 ↦{fullShare} f : sProp 𝕄)
      = iprop((halfP c (qOf c) (hx c) f ∗ halfP c (qOf c) (hy c) f) ∗ (halfP c (qOf (xn c)) (hx c) f ∗ halfP c (qOf (xn c)) (hy c) f)
        ∗ (halfP c (qOf (yn c)) (hx c) f ∗ halfP c (qOf (yn c)) (hy c) f)
        ∗ (halfP c (qOf (xn (yn c))) (hx c) f ∗ halfP c (qOf (xn (yn c))) (hy c) f)) := by
  have e := pointsTo_biUnion (Ix := Unit) (Name := ℕ) (U := UU) (Lvl := ℕ) (ℓ := (c.tc : Thread nD τ).loc main_v1) (q := fullShare) (f := f)
    Finset.univ (fun p : Fin 4 × Fin 2 => (halfR p.1 p.2).set) fun p _ p' _ hne => halves_disjoint p p' hne
  rw [halves_cover] at e
  refine e.trans ?_
  rw [BI.bigSep_univ_prod, bigSep_univ_eq_bigSepL [qOf c, qOf (xn c), qOf (yn c), qOf (xn (yn c))] (by clear e; revert c; decide) (by clear e; revert c; decide)]
  have hp (q : Fin 4) : (bigSep Finset.univ fun b : Fin 2 => ((c.tc : Thread nD τ).loc main_v1 ↦[(halfR (q, b).1 (q, b).2).set]{fullShare} f : sProp 𝕄))
      = iprop(halfP c q (hx c) f ∗ halfP c q (hy c) f) := by
    rw [bigSep_univ_eq_bigSepL [hx c, hy c] (by clear e; revert c; decide) (by clear e; revert c; decide), bigSepL_cons_cons, bigSepL_singleton]
    exact congrArg₂ BIBase.sep (congrArg (fun S => ((c.tc : Thread nD τ).loc main_v1 ↦[S]{fullShare} f : sProp 𝕄)) (half_set q (hx c)).symm)
      (congrArg (fun S => ((c.tc : Thread nD τ).loc main_v1 ↦[S]{fullShare} f : sProp 𝕄)) (half_set q (hy c)).symm)
  rw [bigSepL_cons_cons, bigSepL_cons_cons, bigSepL_cons_cons, bigSepL_singleton, hp, hp, hp, hp]
  rfl

/-! ## The cells, listed -/

/-- A family over a device's cells is its member at the barrier and the rest. -/
theorem cells_bar (Φ : CK → sProp 𝕄) :
    bigSep Finset.univ Φ = iprop(Φ bar ∗ bigSep Finset.univ fun k : (Fin 6 × Fin 16) ⊕ Fin 4 => Φ (some k)) := by
  rw [BI.bigSep_univ_equiv (Equiv.optionEquivSumPUnit.{0} ((Fin 6 × Fin 16) ⊕ Fin 4)).symm Φ, BI.bigSep_univ_sum,
    BI.bigSep_univ_of_subsingleton PUnit.unit]
  exact BI.equiv_iff.mp ⟨BI.sep_comm, BI.sep_comm⟩

/-- A family over every cell of a device, listed. -/
theorem cells_list (Φ : CK → sProp 𝕄) :
    bigSep Finset.univ Φ = iprop(Φ bar
      ∗ ((bigSep Finset.univ fun r => Φ (ck 0 r)) ∗ (bigSep Finset.univ fun r => Φ (ck 1 r)) ∗ (bigSep Finset.univ fun r => Φ (ck 2 r))
        ∗ (bigSep Finset.univ fun r => Φ (ck 3 r)) ∗ (bigSep Finset.univ fun r => Φ (ck 4 r)) ∗ (bigSep Finset.univ fun r => Φ (ck 5 r)))
      ∗ (Φ (fw 0) ∗ Φ (fw 1) ∗ Φ (fw 2) ∗ Φ (fw 3))) := by
  rw [cells_bar, BI.bigSep_univ_sum, BI.bigSep_univ_prod, bigSep_univ_eq_bigSepL [0, 1, 2, 3, 4, 5] (by decide) (by decide),
    bigSep_univ_eq_bigSepL (I := Fin 4) [0, 1, 2, 3] (by decide) (by decide)]
  rfl

/-- Device `c`'s positions, one in each of its cells, all at the start. -/
def ats (c : Dev nD) : sProp (MT nD τ sig Unit (Elt F) ℕ UU ℕ) := bigSep Finset.univ fun k : CK => atPos ER (kcell (c, k)) 0 ∅ 0
/-- Device `c`'s semaphores of the schedule, all at zero. -/
def zeros (c : Dev nD) : sProp (MT nD τ sig Unit (Elt F) ℕ UU ℕ) := bigSep Finset.univ fun k : CK => semVal (kcell (c, k)) 0
/-- The right to signal each of device `c`'s three neighbours once. -/
def barToks (c : Dev nD) : sProp (MT nD τ sig Unit (Elt F) ℕ UU ℕ) :=
  iprop(dutyTok ER (kcell (zp c, bar)) 0 0 ∗ dutyTok ER (kcell (xn c, bar)) 0 1 ∗ dutyTok ER (kcell (yn c, bar)) 0 2)
/-- The right to pay every duty that device `c` pays with a copy. -/
def toks (c : Dev nD) : sProp (MT nD τ sig Unit (Elt F) ℕ UU ℕ) :=
  iprop(((bigSep Finset.univ fun r : Fin 16 => dutyTok ER (kcell (c, ck 0 r)) 0 0) ∗ (bigSep Finset.univ fun r : Fin 16 => dutyTok ER (kcell (zp c, ck 1 r)) 0 0)
      ∗ (bigSep Finset.univ fun r : Fin 16 => dutyTok ER (kcell (c, ck 2 r)) 0 0) ∗ (bigSep Finset.univ fun r : Fin 16 => dutyTok ER (kcell (xn c, ck 3 r)) 0 0)
      ∗ (bigSep Finset.univ fun r : Fin 16 => dutyTok ER (kcell (c, ck 4 r)) 0 0) ∗ (bigSep Finset.univ fun r : Fin 16 => dutyTok ER (kcell (yn c, ck 5 r)) 0 0))
    ∗ (dutyTok ER (kcell (c, fw 0)) 0 0 ∗ dutyTok ER (kcell (xn c, fw 1)) 0 0 ∗ dutyTok ER (kcell (c, fw 2)) 0 0 ∗ dutyTok ER (kcell (yn c, fw 3)) 0 0))
/-- The credits for every wait device `c` makes on a cell that others pay. -/
def creds (c : Dev nD) : sProp (MT nD τ sig Unit (Elt F) ℕ UU ℕ) :=
  iprop(cred (tallyAt (kcell (c, bar)) () 3)
    ∗ (bigSep Finset.univ fun r : Fin 16 => cred (tallyAt (kcell (c, ck 1 r)) () NC))
    ∗ (bigSep Finset.univ fun r : Fin 16 => cred (tallyAt (kcell (c, ck 3 r)) () NC))
    ∗ (bigSep Finset.univ fun r : Fin 16 => cred (tallyAt (kcell (c, ck 5 r)) () NC))
    ∗ cred (tallyAt (kcell (c, fw 1)) () NH) ∗ cred (tallyAt (kcell (c, fw 3)) () NH))

/-- The four buffers, whatever they hold. -/
def bufs (c : Dev nD) : sProp (MT nD τ sig Unit (Elt F) ℕ UU ℕ) :=
  iprop((∃ f, (c.tc : Thread nD τ).loc cc0_scratch0 ↦{fullShare} f) ∗ (∃ f, (c.tc : Thread nD τ).loc cc0_scratch1 ↦{fullShare} f)
    ∗ (∃ f, (c.tc : Thread nD τ).loc cc0_scratch2 ↦{fullShare} f) ∗ (∃ f, (c.tc : Thread nD τ).loc cc0_scratch3 ↦{fullShare} f))
/-- The semaphores of the device's own copies, at zero. -/
def ownZeros (c : Dev nD) : sProp (MT nD τ sig Unit (Elt F) ℕ UU ℕ) :=
  iprop((semVal ((c.tc : Thread nD τ), .dma (fSem 0)) 0 ∗ semVal ((c.tc : Thread nD τ), .dma (fSem 1)) 0)
    ∗ bigSep Finset.univ fun r : Fin 16 => semVal ((c.tc : Thread nD τ), .dma (semAt cc0_scratch5 r)) 0)

/-- What device `c` starts with, -/
def begun (c : Dev nD) : sProp 𝕄 :=
  iprop(ctx m K ∗ ats c ∗ barToks c ∗ toks c ∗ creds c ∗ ownZeros c ∗ bufs c
    ∗ ((c.tc : Thread nD τ).loc main_arg0 ↦{fullShare} m ((c.tc : Thread nD τ).loc main_arg0))
    ∗ ((c.tc : Thread nD τ).loc main_v1 ↦{fullShare} m ((c.tc : Thread nD τ).loc main_v1)) ∗ ow c (owAll c))
/-- and what it ends with. -/
def ended (c : Dev nD) : sProp 𝕄 :=
  iprop(zeros c ∗ ownZeros c ∗ bufs c
    ∗ ((c.tc : Thread nD τ).loc main_arg0 ↦{fullShare.left} m ((c.tc : Thread nD τ).loc main_arg0))
    ∗ ((c.tc : Thread nD τ).loc main_v1 ↦{fullShare} result m (zOf c)) ∗ ow c 0)

/-! ## The handshake -/

/-- What a device lets its neighbours write, -/
def offers (c : Dev nD) : sProp (MT nD τ sig Unit (Elt F) ℕ UU ℕ) :=
  iprop(rzAny c ∗ (outAny c (qOf (xn c)) ∗ ∃ f, halfP c (qOf (xn (yn c))) (hy c) f) ∗ (outAny c (qOf (yn c)) ∗ ∃ f, halfP c (qOf (xn (yn c))) (hx c) f))
/-- and what its neighbours let it write. -/
def takes (c : Dev nD) : sProp (MT nD τ sig Unit (Elt F) ℕ UU ℕ) :=
  iprop(rzAny (zp c) ∗ (outAny (xn c) (qOf c) ∗ ∃ f, halfP (xn c) (qOf (yn c)) (hx c) f) ∗ (outAny (yn c) (qOf c) ∗ ∃ f, halfP (yn c) (qOf (xn c)) (hy c) f))

/-- With its signal to its partner a device lends its receive buffer. -/
theorem pay_bar_z (c : Dev nD) : pay m (zp c) bar 0 = rzAny c := by
  show rzAny (zp (zp c)) = _; rw [zp_zp]
/-- With its signal along x a device lends the x neighbour's quarter of its result and a half of the diagonal one. -/
theorem pay_bar_x (c : Dev nD) : pay m (xn c) bar 1 = iprop(outAny c (qOf (xn c)) ∗ ∃ f, halfP c (qOf (xn (yn c))) (hy c) f) := by
  show iprop(outAny (xn (xn c)) (qOf (xn c)) ∗ ∃ f, halfP (xn (xn c)) (qOf (yn (xn c))) (hx (xn c)) f) = _
  rw [xn_xn, yn_xn, hx_xn]
/-- With its signal along y a device lends the y neighbour's quarter of its result and the other half of the diagonal one. -/
theorem pay_bar_y (c : Dev nD) : pay m (yn c) bar 2 = iprop(outAny c (qOf (yn c)) ∗ ∃ f, halfP c (qOf (xn (yn c))) (hx c) f) := by
  show iprop(outAny (yn (yn c)) (qOf (yn c)) ∗ ∃ f, halfP (yn (yn c)) (qOf (xn (yn c))) (hy (yn c)) f) = _
  rw [yn_yn, hy_yn]

/-- A signal to a neighbour's barrier pays one of the barrier's duties, and hands over what the duty lends. -/
theorem wp_signal_bar (c p : Dev nD) (hp : (τ.routes (c.tc : Thread nD τ) (p.tc : Thread nD τ)) = true) (d : Fin 3) (k : TProg F) (Q : PUnit → sProp 𝕄)
    (O : CellTallies nD τ sig Unit) :
    iprop(ctx m K ∗ dutyTok ER (kcell (p, bar)) 0 d ∗ pay m p bar d ∗ ow c (O + dueBar p))
      ⊢ iprop((ow c O -∗ WP c k Q) -∗ WP c (signalB p k) Q) := by
  iintro ⟨#HC, Ht, Hp, HO⟩ Hk
  ihave #HS := (ctx_cell m K (p, bar)) $$ HC
  icases HS with ⟨#HI, #Hr⟩
  unfold ow
  icases HO with ⟨%W, HO⟩
  iapply (Rounds.wp_signal 𝒱₀ ER (sched m) (c.tc : Thread nD τ) none (dst := (p.tc : Thread nD τ)) (κ := K (p, bar)) (d := d)
      (by rw [show ((p.tc : Thread nD τ), SemLoc.reg barSem) = kcell (p, bar) from rfl, sched_duties]; exact Finset.mem_univ _)
      ((sched_amount m p bar d).trans (by decide)) () O rfl (hr := hp)) $$ [Ht Hp HO]
  · isplitr; · iexact HI
    isplitl [HO]; · iexact HO
    isplitl [Ht]; · iexact Ht
    isplitl [Hp]
    · iapply (Entails.of_eq (sched_payload m p bar d).symm); iexact Hp
    iexact Hr
  iintro HO
  iapply Hk
  iexists W; iexact HO

/-- The handshake: three places of its own lent, the neighbours' three borrowed. -/
theorem step_handshake (c : Dev nD) (k : TProg F) (Q : PUnit → sProp 𝕄) :
    iprop(ctx m K ∗ offers c ∗ barToks c ∗ cred (tallyAt (kcell (c, bar)) () 3) ∗ atPos ER (kcell (c, bar)) 0 ∅ 0 ∗ ow c (owAll c))
      ⊢ iprop((iprop(takes c ∗ semVal (kcell (c, bar)) 0 ∗ ow c (owC c + owB c 0 + owA c 0)) -∗ WP c k Q) -∗ WP c (handshake c k) Q) := by
  unfold offers barToks takes
  iintro ⟨#HC, ⟨Hz, Hx, Hy⟩, ⟨Htz, Htx, Hty⟩, Hcr, Hat, HO⟩ Hk
  unfold owAll
  iapply (wp_signal_bar m K c (zp c) (by routes) 0 _ Q (owC c + owB c 0 + owA c 0 + dueBar (yn c) + dueBar (xn c))) $$ [Htz Hz HO]
  · isplitr; · iexact HC
    isplitl [Htz]; · iexact Htz
    isplitl [Hz]; · iapply (Entails.of_eq (pay_bar_z m c).symm); iexact Hz
    iexact HO
  iintro HO
  iapply (wp_signal_bar m K c (xn c) (by routes) 1 _ Q (owC c + owB c 0 + owA c 0 + dueBar (yn c))) $$ [Htx Hx HO]
  · isplitr; · iexact HC
    isplitl [Htx]; · iexact Htx
    isplitl [Hx]; · iapply (Entails.of_eq (pay_bar_x m c).symm); iexact Hx
    iexact HO
  iintro HO
  iapply (wp_signal_bar m K c (yn c) (by routes) 2 _ Q (owC c + owB c 0 + owA c 0)) $$ [Hty Hy HO]
  · isplitr; · iexact HC
    isplitl [Hty]; · iexact Hty
    isplitl [Hy]; · iapply (Entails.of_eq (pay_bar_y m c).symm); iexact Hy
    iexact HO
  iintro HO
  ihave #HS := (ctx_cell m K (c, bar)) $$ HC
  ihave #HL := (ctx_levels m K) $$ HC
  icases HS with ⟨#HI, #Hr⟩
  unfold ow
  icases HO with ⟨%W, HO⟩
  have hlev : (levAts L lv : sProp 𝕄) ⊢ MayWait (c.tc : Thread nD τ) (.reg barSem) () (owC c + owB c 0 + owA c 0) :=
    mayWait_above c (.reg barSem) 1 (lv_kcell c bar ()).le _
      ((((owC_above c).mono (by decide)).add ((owB_above c 0).mono (by decide))).add (owA_above c 0))
  iapply (Rounds.wp_wait_rest_token 𝒱₀ ER (sched m) (c.tc : Thread nD τ) none (κ := K (c, bar))
      (wpE_semWait_eq 𝒱₀ (c.tc : Thread nD τ) none Set.univ) (Set.mem_univ _) () (O := owC c + owB c 0 + owA c 0) (W := W) (R := 0) (m := 0) (T := ∅)
      ((by decide : 0 + _ = 3).trans (sched_expect_bar m c).symm)) $$ [Hcr HO Hat]
  · isplitr; · iexact HI
    isplitl [Hcr]; · iexact Hcr
    isplitl [HO]; · iexact HO
    isplitr; · iapply hlev; iexact HL
    iexact Hat
  iintro ⟨HO, Hat, -, Hpay⟩
  imod (Rounds.cell_close ER (sched m) (Set.mem_univ (K (c, bar))) (fun h => h) (R := 0 + 1) (sched_later m (kcell (c, bar)))) $$ [Hat] with Hzero
  · isplitr; · iexact HI
    iexact Hat
  ihave Hpay := (Entails.of_eq (rest_bar m c)) $$ Hpay
  iapply Hk
  isplitl [Hpay]; · iexact Hpay
  isplitl [Hzero]; · iexact Hzero
  iexists _; iexact HO

/-! ## The body -/

/-- Pieces of one buffer at common contents are pieces each at some contents. -/
theorem bigSep_any {α : Type} (s : Finset α) (ℓ : Loc nD τ sig) (S : α → Finset (Idx ℓ)) (f : Buf (Elt F) ℓ) :
    (bigSep s fun a => (ℓ ↦[S a]{fullShare} f : sProp 𝕄)) ⊢ bigSep s fun a => iprop(∃ g, ℓ ↦[S a]{fullShare} g) :=
  BI.bigSep_mono fun a _ => show (ℓ ↦[S a]{fullShare} f : sProp 𝕄) ⊢ iprop(∃ g, ℓ ↦[S a]{fullShare} g) by
    iintro H; iexists f; iexact H

/-- The result at the start: the device's own quarter, and what it lets its neighbours write. -/
theorem out_start (c : Dev nD) (f : S16384x1024.Idx → Elt F .bf16) :
    ((c.tc : Thread nD τ).loc main_v1 ↦{fullShare} f : sProp 𝕄)
      ⊢ iprop(outAny c (qOf c) ∗ (outAny c (qOf (xn c)) ∗ ∃ f, halfP c (qOf (xn (yn c))) (hy c) f)
        ∗ (outAny c (qOf (yn c)) ∗ ∃ f, halfP c (qOf (xn (yn c))) (hx c) f)) := by
  have ho (q : Fin 4) : iprop(halfP c q (hx c) f ∗ halfP c q (hy c) f) ⊢ outAny c q := by
    rw [← quarter_halves c q f]
    unfold outAny
    exact bigSep_any Finset.univ ((c.tc : Thread nD τ).loc main_v1) (fun r => (outV q r).view.set) f
  rw [out_parts c f]
  iintro ⟨H0, H1, H2, H3, H4⟩
  isplitl [H0]; · iapply (ho (qOf c)); iexact H0
  isplitl [H1 H4]
  · isplitl [H1]; · iapply (ho (qOf (xn c))); iexact H1
    iexists f; iexact H4
  isplitl [H2]; · iapply (ho (qOf (yn c))); iexact H2
  iexists f; iexact H3

/-- The body takes a device from its start to its end. -/
theorem sound (c : Dev nD) (Q : PUnit → sProp 𝕄) :
    begun m K c ⊢ iprop((ended m c -∗ Q ⟨⟩) -∗ WP c (steps c) Q) := by
  unfold begun ats toks creds ownZeros bufs
  rw [cells_list fun k => atPos ER (kcell (c, k)) 0 ∅ 0]
  iintro ⟨#HC, ⟨Hab, ⟨Ha0, Ha1, Ha2, Ha3, Ha4, Ha5⟩, ⟨Haf0, Haf1, Haf2, Haf3⟩⟩, Hbt, ⟨⟨Ht0, Ht1, Ht2, Ht3, Ht4, Ht5⟩, ⟨Htf0, Htf1, Htf2, Htf3⟩⟩,
    ⟨Hcb, Hc1, Hc3, Hc5, Hcf1, Hcf3⟩, ⟨⟨Hs0, Hs1⟩, Hpo⟩, ⟨⟨%f0, Hb0⟩, ⟨%f1, Hb1⟩, ⟨%f2, Hb2⟩, ⟨%f3, Hb3⟩⟩, Hx, Ho, HO⟩ Hk
  -- the buffers, chunk by chunk
  ihave Hx := (pointsTo_share (PosShare.mem_left_op_right fullShare)).1 $$ Hx
  icases Hx with ⟨HxL, HxR⟩
  ihave Ho := (out_start c (m ((c.tc : Thread nD τ).loc main_v1))) $$ Ho
  icases Ho with ⟨HoO, HoX, HoY⟩
  ihave Hb0 := (vf_split c f0) $$ Hb0
  icases Hb0 with ⟨Hv0, Hv1⟩
  ihave Hb1 := (Entails.of_eq (vs_join c f1).symm) $$ Hb1
  ihave Hb1 := (bigSep_any Finset.univ ((c.tc : Thread nD τ).loc cc0_scratch1) (fun r : Fin 16 => (vsV r).view.set) f1) $$ Hb1
  ihave Hb2 := (Entails.of_eq (rz_join c f2).symm) $$ Hb2
  ihave Hb2 := (bigSep_any Finset.univ ((c.tc : Thread nD τ).loc cc0_scratch2) (fun r : Fin 16 => (rzV r).view.set) f2) $$ Hb2
  ihave Hb3 := (Entails.of_eq (parts_join c f3).symm) $$ Hb3
  ihave Hb3 := (bigSep_any Finset.univ ((c.tc : Thread nD τ).loc cc0_scratch3) (fun r : Fin 16 => (vpV r).view.set) f3) $$ Hb3
  -- the handshake
  iapply (step_handshake m K c) $$ [Hb2 HoX HoY Hbt Hcb Hab HO]
  · isplitr; · iexact HC
    isplitl [Hb2 HoX HoY]
    · unfold offers rzAny
      isplitl [Hb2]; · iexact Hb2
      isplitl [HoX] <;> iassumption
    isplitl [Hbt]; · iexact Hbt
    isplitl [Hcb]; · iexact Hcb
    isplitl [Hab] <;> iassumption
  unfold takes rzAny outAny
  iintro ⟨⟨HdZ, ⟨HdX, HdFX⟩, ⟨HdY, HdFY⟩⟩, Hzb, HO⟩
  -- the first phase
  iapply (wp_first m c (zOf (zp c)) (qOf c)) $$ [HxR Hv0 Hs0 Hv1 Hs1]
  · isplitl [HxR]; · unfold xAny; iexists fullShare.right; iexact HxR
    isplitl [Hv0 Hs0]
    · unfold slotFree
      isplitl [Hv0]; · iexists f0; iexact Hv0
      iexact Hs0
    unfold slotFree
    isplitl [Hv1]; · iexists f0; iexact Hv1
    iexact Hs1
  iintro HS
  iapply (fold_chunks c Q (stepA c) (ctx m K) (aPre c) (aPost c) (aState m c) (step_a m K c · · Q)) $$ [Hb1 HdZ Ht0 Ht1 HS HO]
  · isplitr; · iexact HC
    isplitl [Hb1 HdZ Ht0 Ht1]
    · unfold aPre
      rw [bigSep_pair, bigSep_pair, bigSep_pair]
      isplitl [Hb1]; · iexact Hb1
      isplitl [HdZ]; · iexact HdZ
      isplitl [Ht0] <;> iassumption
    unfold aState
    isplitl [HS] <;> iassumption
  unfold aPost aState
  iintro ⟨Hc0, HS, HO⟩
  rw [show owA c 16 = 0 from owFrom_end _, add_zero]
  ihave HS := (staged_end m c (zOf (zp c)) (qOf c)) $$ HS
  -- the second phase
  iapply (wp_first m c (zOf c) (qOf c)) $$ HS
  iintro HS
  iapply (fold_chunks c Q (stepB c) (ctx m K) (bPre c) (bPost m c) (bState m c) (step_b m K c · · Q))
    $$ [Hc1 Ha1 Hb3 HdX HdY HoO Ht2 Ht3 Ht4 Ht5 Hpo HS HO]
  · isplitr; · iexact HC
    isplitl [Hc1 Ha1 Hb3 HdX HdY HoO Ht2 Ht3 Ht4 Ht5 Hpo]
    · unfold bPre
      rw [bigSep_pair, bigSep_pair, bigSep_pair, bigSep_pair, bigSep_pair, bigSep_pair, bigSep_pair, bigSep_pair, bigSep_pair, bigSep_pair]
      isplitl [Hc1 Ha1]; · isplitl [Hc1] <;> iassumption
      isplitl [Hb3]; · iexact Hb3
      isplitl [HdX]; · iexact HdX
      isplitl [HdY]; · iexact HdY
      isplitl [HoO]; · iexact HoO
      isplitl [Ht2 Ht3]; · isplitl [Ht2] <;> iassumption
      isplitl [Ht4 Ht5]; · isplitl [Ht4] <;> iassumption
      iexact Hpo
    unfold bState
    isplitl [HS] <;> iassumption
  unfold bPost bState
  rw [bigSep_pair, bigSep_pair, bigSep_pair, bigSep_pair]
  iintro ⟨⟨⟨Hrz, Hz1⟩, Hc2, Hc4, Hcp⟩, HS, HO⟩
  rw [show owB c 16 = 0 from owFrom_end _, add_zero]
  ihave HS := (staged_end m c (zOf c) (qOf c)) $$ HS
  -- the gathering
  have hdue (a : Fin 6) : iprop((bigSep Finset.univ fun r : Fin 16 => cred (tallyAt (kcell (c, ck a r)) () NC)) ∗ bigSep Finset.univ fun r : Fin 16 => atPos ER (kcell (c, ck a r)) 0 ∅ 0)
      ⊢ iprop((bigSep Finset.univ fun j : Fin 8 => due (F := F) c (ck a (chunkOf (hx c) j))) ∗ bigSep Finset.univ fun j : Fin 8 => due c (ck a (chunkOf (hy c) j))) := by
    rw [← bigSep_pair, ← chunks_halves (hx c) (hy c) (hy_val c) fun r => due c (ck a r)]
    exact .rfl
  ihave HY := (hdue 5) $$ [Hc5 Ha5]
  · isplitl [Hc5] <;> iassumption
  icases HY with ⟨HY1, HY2⟩
  ihave HX := (hdue 3) $$ [Hc3 Ha3]
  · isplitl [Hc3] <;> iassumption
  icases HX with ⟨HX2, HX1⟩
  iapply (step_gather m K c) $$ [HY1 HX1 HY2 HX2 HdFX HdFY Htf0 Htf1 Htf2 Htf3 Hcf1 Haf1 Hcf3 Haf3 HO]
  · isplitr; · iexact HC
    isplitr [HO]
    · unfold gPre
      isplitl [HY1]; · iexact HY1
      isplitl [HX1]; · iexact HX1
      isplitl [HY2]; · iexact HY2
      isplitl [HX2]; · iexact HX2
      isplitl [HdFX HdFY]; · isplitl [HdFX] <;> iassumption
      isplitl [Htf0 Htf1]; · isplitl [Htf0] <;> iassumption
      isplitl [Htf2 Htf3]; · isplitl [Htf2] <;> iassumption
      isplitl [Hcf1 Haf1]
      · unfold due
        isplitl [Hcf1]; · iexact Hcf1
        iexact Haf1
      unfold due
      isplitl [Hcf3]; · iexact Hcf3
      iexact Haf3
    iexact HO
  unfold gPost
  iintro ⟨⟨⟨HyY, HxX, HyF, HxF⟩, Hz5, Hz3, ⟨Hzf1, Hzf3⟩, Hcf0, Hcf2⟩, HO⟩
  -- the last waits
  iapply (fold_chunks c Q (stepE c) (ctx m K) (ePre m c) (ePost m c) (fun _ => ow c 0) (step_e m K c · · Q))
    $$ [Hcp Hc0 Ha0 Hc2 Ha2 Hc4 Ha4 HO]
  · isplitr; · iexact HC
    isplitr [HO]
    · unfold ePre
      rw [bigSep_pair, bigSep_pair, bigSep_pair, bigSep_pair, bigSep_pair, bigSep_pair]
      isplitl [Hcp]; · iexact Hcp
      isplitl [Hc0 Ha0]; · isplitl [Hc0] <;> iassumption
      isplitl [Hc2 Ha2]; · isplitl [Hc2] <;> iassumption
      isplitl [Hc4] <;> iassumption
    iexact HO
  unfold ePost
  rw [bigSep_pair, bigSep_pair, bigSep_pair, bigSep_pair, bigSep_pair, bigSep_pair]
  iintro ⟨⟨HoO, Hvs, Hvp, Hpo, Hz0, Hz2, Hz4⟩, HO⟩
  iapply (wp_waitFw m K c 0 (qOf (yn c)) (hx c) _ Q 0 (Above.zero 4)) $$ [Hcf0 HO Haf0]
  · isplitr; · iexact HC
    isplitl [Hcf0]; · iexact Hcf0
    isplitl [HO] <;> iassumption
  iintro ⟨HxY, HO, Hzf0⟩
  iapply (wp_waitFw m K c 2 (qOf (xn c)) (hy c) _ Q 0 (Above.zero 4)) $$ [Hcf2 HO Haf2]
  · isplitr; · iexact HC
    isplitl [Hcf2]; · iexact Hcf2
    isplitl [HO] <;> iassumption
  iintro ⟨HyX, HO, Hzf2⟩
  unfold WP
  rw [wp_ret]
  imodintro
  iapply Hk
  -- the end
  unfold ended zeros ownZeros bufs
  rw [cells_list fun k => semVal (kcell (c, k)) 0, chunks_halves (hx c) (hy c) (hy_val c) (fun r => semVal (kcell (c, ck 5 r)) 0),
    chunks_halves (hx c) (hy c) (hy_val c) (fun r => semVal (kcell (c, ck 3 r)) 0)]
  unfold slotFree
  icases HS with ⟨Hx, ⟨⟨%g0, Hv0⟩, Hs0⟩, ⟨⟨%g1, Hv1⟩, Hs1⟩⟩
  isplitl [Hzb Hz0 Hz1 Hz2 Hz3 Hz4 Hz5 Hzf0 Hzf1 Hzf2 Hzf3]
  · isplitl [Hzb]; · iexact Hzb
    isplitr [Hzf0 Hzf1 Hzf2 Hzf3]
    · isplitl [Hz0]; · iexact Hz0
      isplitl [Hz1]; · iexact Hz1
      isplitl [Hz2]; · iexact Hz2
      isplitl [Hz3]; · iexact Hz3
      isplitl [Hz4]; · iexact Hz4
      iexact Hz5
    isplitl [Hzf0]; · iexact Hzf0
    isplitl [Hzf1]; · iexact Hzf1
    isplitl [Hzf2]; · iexact Hzf2
    iexact Hzf3
  isplitl [Hs0 Hs1 Hpo]
  · isplitr [Hpo]
    · isplitl [Hs0] <;> iassumption
    iexact Hpo
  isplitl [Hv0 Hv1 Hvs Hrz Hvp]
  · isplitl [Hv0 Hv1]
    · iapply (vf_rejoin c g0 g1)
      isplitl [Hv0] <;> iassumption
    isplitl [Hvs]
    · iexists (sentBuf m c); iapply (Entails.of_eq (vs_join c (sentBuf m c))); iexact Hvs
    isplitl [Hrz]
    · iexists (sentBuf m (zp c)); iapply (Entails.of_eq (rz_join c (sentBuf m (zp c)))); iexact Hrz
    iexists (partBuf m c); iapply (Entails.of_eq (parts_join c (partBuf m c))); iexact Hvp
  isplitl [HxL]; · iexact HxL
  isplitr [HO]
  · ihave HoO := (Entails.of_eq (quarter_halves c (qOf c) (result m (zOf c)))) $$ HoO
    iapply (Entails.of_eq (out_parts c (result m (zOf c))).symm)
    isplitl [HoO]; · iexact HoO
    isplitl [HxX HyX]
    · isplitl [HxX]; · iexact HxX
      iapply (Entails.of_eq (show pay m c (fw 2) 0 = halfP c (qOf (xn c)) (hy c) (result m (zOf c)) from rfl)); iexact HyX
    isplitl [HxY HyY]
    · isplitl [HxY]
      · iapply (Entails.of_eq (show pay m c (fw 0) 0 = halfP c (qOf (yn c)) (hx c) (result m (zOf c)) from rfl)); iexact HxY
      iexact HyY
    isplitl [HxF] <;> iassumption
  iexact HO

end Cert.Gather

end
-- ==== Proof.Deal.lean ====
/-
# What the launch deals

The kernel's semaphores at zero become its cells. The tokens of a cell's duties go from the device that waits on the
cell to the devices that pay them, and each device gets the credit of its own waits.
-/
module

public import proofs.«01_k».proof.Proof.Body
public import proofs.«01_k».proof.Proof.Gen.KernelIdeal.Launch

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F)

/-! ## The semaphores -/

/-- The kernel's own semaphores: those of the local copies, and the cells'. -/
abbrev osem : (Fin 2 ⊕ Fin 16) ⊕ ((Fin 6 × Fin 16) ⊕ Fin 4) → SemLoc sig
  | .inl (.inl b) => .dma (fSem b)
  | .inl (.inr r) => .dma (semAt cc0_scratch5 r)
  | .inr k => csem (some k)

/-- The semaphores the kernel keeps itself are all those of the schedule and of the local copies, each once. -/
theorem ownSemFacts : Pipeline.OwnSemFacts cfg0.spec osem where
  isScoped := by decide +kernel
  inj := by decide +kernel
  disj := fun _ w => w.elim0

/-- The kernel's own semaphores at zero. -/
abbrev own0 (c : Dev nD) : sProp 𝕄 :=
  Pipeline.ownSems0 (Ix := Unit) (Name := ℕ) (U := UU) (Lvl := ℕ) (Val := Elt F) (τ := τ) osem c

/-- The kernel's own semaphores at zero, listed by kind. -/
theorem own0_eq (c : Dev nD) :
    (own0 c : sProp 𝕄) = iprop(ownZeros c ∗ bigSep Finset.univ fun k : (Fin 6 × Fin 16) ⊕ Fin 4 => semVal (kcell (c, some k)) 0) := by
  unfold own0 Pipeline.ownSems0 ownZeros
  rw [BI.bigSep_univ_sum, BI.bigSep_univ_sum, bigSep_univ_eq_bigSepL (I := Fin 2) [0, 1] (by decide) (by decide)]
  rfl

/-- The barrier's semaphore is the only one that outlives the kernel. -/
theorem unscoped_eq (c : Dev nD) : (unscopedSems0 c : sProp 𝕄) = semVal (kcell (c, bar)) 0 := by
  unfold unscopedSems0
  rw [bigSep_eq_bigSepL_of_eq [SemLoc.reg barSem] (by decide) (by decide)]; rfl

/-- A device's semaphores of the schedule at zero, listed by kind. -/
theorem zeros_eq (c : Dev nD) :
    (zeros c : sProp 𝕄) = iprop(semVal (kcell (c, bar)) 0 ∗ bigSep Finset.univ fun k : (Fin 6 × Fin 16) ⊕ Fin 4 => semVal (kcell (c, some k)) 0) :=
  cells_bar fun k => semVal (kcell (c, k)) 0

/-! ## The tokens -/

/-- A device's own cells' duties: the barrier's three and one for every other cell. -/
abbrev Tok : Type := Dev nD × (Fin 3 ⊕ ((Fin 6 × Fin 16) ⊕ Fin 4))

/-- The cell, round and duty of a right to pay. -/
abbrev tokOf : Tok → GSem nD τ sig × ℕ × Fin 3
  | (c, .inl d) => (kcell (c, bar), 0, d)
  | (c, .inr k) => (kcell (c, some k), 0, 0)

/-- Different rights pay different duties. -/
theorem tokOf_injective : Function.Injective tokOf := by
  rintro ⟨c, d | k⟩ ⟨c', d' | k'⟩ h
  all_goals
    have h1 := kcell_injective (congrArg (fun x : GSem nD τ sig × ℕ × Fin 3 => x.1) h)
    have h2 := congrArg (fun x : GSem nD τ sig × ℕ × Fin 3 => x.2.2) h
    cases h1
    try cases h2
    try rfl

/-- Every cell of the schedule; -/
def allCells : Finset (GSem nD τ sig) := Finset.univ.map ⟨kcell, kcell_injective⟩
/-- every right to pay a duty. -/
def allToks : Finset (GSem nD τ sig × ℕ × Fin 3) := Finset.univ.map ⟨tokOf, tokOf_injective⟩

/-- The tokens of device `c`'s own cells. -/
def minted (c : Dev nD) : sProp (MT nD τ sig Unit (Elt F) ℕ UU ℕ) :=
  iprop((dutyTok ER (kcell (c, bar)) 0 0 ∗ dutyTok ER (kcell (c, bar)) 0 1 ∗ dutyTok ER (kcell (c, bar)) 0 2)
    ∗ ((bigSep Finset.univ fun r : Fin 16 => dutyTok ER (kcell (c, ck 0 r)) 0 0) ∗ (bigSep Finset.univ fun r : Fin 16 => dutyTok ER (kcell (c, ck 1 r)) 0 0)
      ∗ (bigSep Finset.univ fun r : Fin 16 => dutyTok ER (kcell (c, ck 2 r)) 0 0) ∗ (bigSep Finset.univ fun r : Fin 16 => dutyTok ER (kcell (c, ck 3 r)) 0 0)
      ∗ (bigSep Finset.univ fun r : Fin 16 => dutyTok ER (kcell (c, ck 4 r)) 0 0) ∗ (bigSep Finset.univ fun r : Fin 16 => dutyTok ER (kcell (c, ck 5 r)) 0 0))
    ∗ (dutyTok ER (kcell (c, fw 0)) 0 0 ∗ dutyTok ER (kcell (c, fw 1)) 0 0 ∗ dutyTok ER (kcell (c, fw 2)) 0 0 ∗ dutyTok ER (kcell (c, fw 3)) 0 0))

/-- The rights, gathered by the device whose cell they pay. -/
theorem allToks_eq :
    bigSep allToks (fun x => (dutyTok ER x.1 x.2.1 x.2.2 : sProp 𝕄)) = bigSep Finset.univ fun c : Dev nD => minted c := by
  unfold allToks
  rw [bigSep_map, BI.bigSep_univ_prod]
  refine BI.bigSep_congr fun c _ => ?_
  rw [BI.bigSep_univ_sum, BI.bigSep_univ_sum, BI.bigSep_univ_prod,
    bigSep_univ_eq_bigSepL (I := Fin 3) [0, 1, 2] (by decide) (by decide),
    bigSep_univ_eq_bigSepL (I := Fin 6) [0, 1, 2, 3, 4, 5] (by decide) (by decide),
    bigSep_univ_eq_bigSepL (I := Fin 4) [0, 1, 2, 3] (by decide) (by decide)]
  rfl

/-- Summing over the devices is summing over their neighbours. -/
theorem around {e : Dev nD → Dev nD} (he : ∀ c, e (e c) = c) (Φ : Dev nD → sProp 𝕄) :
    bigSep Finset.univ Φ = bigSep Finset.univ fun c => Φ (e c) :=
  BI.bigSep_univ_equiv (Function.Involutive.toPerm e he) Φ

/-- Every token goes to the device that pays the duty. -/
theorem toks_around : (bigSep Finset.univ fun c : Dev nD => (minted c : sProp 𝕄)) ⊢ bigSep Finset.univ fun c : Dev nD => iprop(barToks c ∗ toks c) := by
  unfold minted barToks toks
  simp only [bigSep_pair]
  rw [around zp_zp fun c : Dev nD => (dutyTok ER (kcell (c, bar)) 0 0 : sProp 𝕄),
    around xn_xn fun c : Dev nD => (dutyTok ER (kcell (c, bar)) 0 1 : sProp 𝕄),
    around yn_yn fun c : Dev nD => (dutyTok ER (kcell (c, bar)) 0 2 : sProp 𝕄),
    around zp_zp fun c : Dev nD => (bigSep Finset.univ fun r : Fin 16 => dutyTok ER (kcell (c, ck 1 r)) 0 0 : sProp 𝕄),
    around xn_xn fun c : Dev nD => (bigSep Finset.univ fun r : Fin 16 => dutyTok ER (kcell (c, ck 3 r)) 0 0 : sProp 𝕄),
    around yn_yn fun c : Dev nD => (bigSep Finset.univ fun r : Fin 16 => dutyTok ER (kcell (c, ck 5 r)) 0 0 : sProp 𝕄),
    around xn_xn fun c : Dev nD => (dutyTok ER (kcell (c, fw 1)) 0 0 : sProp 𝕄),
    around yn_yn fun c : Dev nD => (dutyTok ER (kcell (c, fw 3)) 0 0 : sProp 𝕄)]

/-! ## From the launch to the devices -/

/-- What the launch element gives device `c`, -/
def G (c : Dev nD) : sProp 𝕄 :=
  iprop((bigSep Finset.univ fun k : CK => roundState ER (sched m) (kcell (c, k)) 0)
    ∗ ats c ∗ (bigSep Finset.univ fun k : CK => reached ER (kcell (c, k)) 0) ∗ minted c)

/-- and what the devices make of it together. -/
def G' (c : Dev nD) : sProp 𝕄 := iprop(∃ K, records m K ∗ ats c ∗ barToks c ∗ toks c ∗ ownZeros c)

/-- A family over all the cells, device by device. -/
theorem allCells_eq (Φ : GSem nD τ sig → sProp 𝕄) :
    bigSep allCells Φ = bigSep Finset.univ fun c : Dev nD => bigSep Finset.univ fun k : CK => Φ (kcell (c, k)) := by
  unfold allCells; rw [bigSep_map, BI.bigSep_univ_prod]; rfl

/-- The schedule's first state pays for every cell's record, position and rights. -/
theorem fund_cells : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst := (Entails.of_eq (allCells_eq fun g => roundState ER (sched m) g 0)) $$ Hst
  ihave Hat := (Entails.of_eq (allCells_eq (F := F) fun g => atPos ER g 0 ∅ 0)) $$ Hat
  ihave Hr := (Entails.of_eq (allCells_eq (F := F) fun g => reached ER g 0)) $$ Hr
  ihave Htok := (Entails.of_eq (allToks_eq (F := F))) $$ Htok
  unfold G ats
  simp only [bigSep_pair]
  isplitl [Hst]; · iexact Hst
  isplitl [Hat]; · iexact Hat
  isplitl [Hr] <;> iassumption

/-- A device's cells, made of its semaphores at zero. -/
theorem core_alloc (c : Dev nD) :
    iprop(own0 c ∗ unscopedSems0 c ∗ G m c)
      ⊢ |={Set.univ}=> iprop((bigSep Finset.univ fun k => iprop(∃ κ : ℕ, cellInv ER (sched m) κ (kcell (c, k))))
          ∗ ats c ∗ (bigSep Finset.univ fun k : CK => reached ER (kcell (c, k)) 0) ∗ minted c ∗ ownZeros c) := by
  rw [own0_eq, unscoped_eq]
  unfold G
  iintro ⟨⟨Hz, Hks⟩, Hb, Hst, Hat, Hr, Htok⟩
  imod (show iprop(zeros c ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        unfold zeros
        rw [← bigSep_pair]
        exact (BI.bigSep_mono fun k _ => (Rounds.body_intro ER (sched m) (kcell (c, k))).trans inv_alloc).trans (bigSep_fupd _ _)) $$ [Hks Hb Hst] with Hinv
  · rw [zeros_eq]
    isplitl [Hks Hb]
    · isplitl [Hb] <;> iassumption
    iexact Hst
  imodintro
  isplitl [Hinv]; · iexact Hinv
  isplitl [Hat]; · iexact Hat
  isplitl [Hr]; · iexact Hr
  isplitl [Htok] <;> iassumption

/-- The cells' records are shared with every device, and each right to pay goes to the device that pays. -/
theorem regroup :
    (bigSep Finset.univ fun c : Dev nD => iprop((bigSep Finset.univ fun k => iprop(∃ κ : ℕ, cellInv ER (sched m) κ (kcell (c, k))))
          ∗ ats c ∗ (bigSep Finset.univ fun k : CK => reached ER (kcell (c, k)) 0) ∗ minted c ∗ ownZeros c) : sProp 𝕄)
      ⊢ bigSep Finset.univ (G' m) := by
  rw [bigSep_pair, bigSep_pair, bigSep_pair, bigSep_pair, ← BI.bigSep_univ_prod (fun p : Dev nD × CK => iprop(∃ κ : ℕ, cellInv ER (sched m) κ (kcell p))),
    ← BI.bigSep_univ_prod (fun p : Dev nD × CK => (reached ER (kcell p) 0 : sProp 𝕄))]
  iintro ⟨HI, Hat, #HR, Htok, Hz⟩
  ihave HK := (BI.bigSep_exists_pi Finset.univ (fun (p : Dev nD × CK) (κ : ℕ) => (cellInv ER (sched m) κ (kcell p) : sProp 𝕄))) $$ HI
  icases HK with ⟨%K, #HI⟩
  ihave Htk := (toks_around (F := F)) $$ Htok
  have hG (c : Dev nD) : iprop(records m K ∗ ats c ∗ (barToks c ∗ toks c) ∗ ownZeros c) ⊢ G' m c := by
    unfold G'
    iintro ⟨#HR, Hat, ⟨Hb, Ht⟩, Hz⟩
    iexists K
    isplitr; · iexact HR
    isplitl [Hat]; · iexact Hat
    isplitl [Hb]; · iexact Hb
    isplitl [Ht] <;> iassumption
  iapply ((BIClass.sep_mono (BI.bigSep_of_persistent Finset.univ (records m K)) (Entails.refl _)).trans
    ((Entails.of_eq (bigSep_pair Finset.univ (fun _ : Dev nD => records m K) (fun c => iprop(ats c ∗ (barToks c ∗ toks c) ∗ ownZeros c))).symm).trans
      (BI.bigSep_mono fun c _ => hG c)))
  isplitr
  · unfold records
    rw [bigSep_pair]
    isplitr; · iexact HI
    iexact HR
  iapply (show iprop((bigSep Finset.univ fun c => ats c) ∗ (bigSep Finset.univ fun c => iprop(barToks c ∗ toks c)) ∗ bigSep Finset.univ fun c => ownZeros c)
    ⊢ (bigSep Finset.univ fun c : Dev nD => iprop(ats c ∗ (barToks c ∗ toks c) ∗ ownZeros c) : sProp 𝕄) from
      Entails.of_eq (by rw [← bigSep_pair, ← bigSep_pair]))
  isplitl [Hat]; · iexact Hat
  isplitl [Htk] <;> iassumption

/-- All the devices' semaphores at once become the cells. -/
theorem glob : (bigSep Finset.univ fun c => iprop(own0 c ∗ unscopedSems0 c ∗ G m c) : sProp 𝕄)
    ⊢ |={Set.univ}=> bigSep Finset.univ (G' m) :=
  ((BI.bigSep_mono fun c _ => core_alloc m c).trans (bigSep_fupd _ _)).trans (BI.fupd_mono (regroup m))

/-! ## The credit of a device's waits -/

/-- All that a device owes, term by term. -/
theorem owAll_sum : owAll = fun d => dueFY d + dueFX d + (∑ r : Fin 16, (dueY d r + dueX d r)) + (∑ r : Fin 16, dueZ d r)
    + dueBar (yn d) + dueBar (xn d) + dueBar (zp d) := by
  funext d
  unfold owAll owC owB owA
  rw [owFrom_zero, owFrom_zero]

/-- What the launch credits a device is what its waits need. -/
theorem launch_creds (c : Dev nD) : (Pipeline.launchCred owAll c : sProp 𝕄) ⊢ creds c := by
  have hz (r : Fin 16) : (Pipeline.launchCred (fun d => dueZ d r) c : sProp 𝕄) ⊢ cred (tallyAt (kcell (c, ck 1 r)) () NC) :=
    Pipeline.launchCred_tallyAt (csem (ck 1 r)) zp zp zp_zp zp_zp () NC c
  have hx (r : Fin 16) : (Pipeline.launchCred (fun d => dueX d r) c : sProp 𝕄) ⊢ cred (tallyAt (kcell (c, ck 3 r)) () NC) :=
    Pipeline.launchCred_tallyAt (csem (ck 3 r)) xn xn xn_xn xn_xn () NC c
  have hy (r : Fin 16) : (Pipeline.launchCred (fun d => dueY d r) c : sProp 𝕄) ⊢ cred (tallyAt (kcell (c, ck 5 r)) () NC) :=
    Pipeline.launchCred_tallyAt (csem (ck 5 r)) yn yn yn_yn yn_yn () NC c
  have hfx : (Pipeline.launchCred dueFX c : sProp 𝕄) ⊢ cred (tallyAt (kcell (c, fw 1)) () NH) :=
    Pipeline.launchCred_tallyAt (csem (fw 1)) xn xn xn_xn xn_xn () NH c
  have hfy : (Pipeline.launchCred dueFY c : sProp 𝕄) ⊢ cred (tallyAt (kcell (c, fw 3)) () NH) :=
    Pipeline.launchCred_tallyAt (csem (fw 3)) yn yn yn_yn yn_yn () NH c
  have hb {e : Dev nD → Dev nD} (he : ∀ c, e (e c) = c) :
      (Pipeline.launchCred (fun d => dueBar (e d)) c : sProp 𝕄) ⊢ cred (tallyAt (kcell (c, bar)) () 1) :=
    Pipeline.launchCred_tallyAt (csem bar) e e he he () 1 c
  have h3 : iprop(cred (tallyAt (kcell (c, bar)) () 1) ∗ cred (tallyAt (kcell (c, bar)) () 1) ∗ cred (tallyAt (kcell (c, bar)) () 1))
      ⊢ (cred (tallyAt (kcell (c, bar)) () 3) : sProp 𝕄) := by
    have e : (tallyAt (kcell (c, bar)) () 1 + (tallyAt (kcell (c, bar)) () 1 + tallyAt (kcell (c, bar)) () 1) : CellTallies nD τ sig Unit)
        = tallyAt (kcell (c, bar)) () 3 := by
      rw [tallyAt_add, tallyAt_add]
    exact ((BIClass.sep_mono (Entails.refl _) (cred_add _ _).2).trans (cred_add _ _).2).trans (Entails.of_eq (congrArg cred e))
  have hzs : (bigSep Finset.univ fun r => (Pipeline.launchCred (fun d => dueZ d r) c : sProp 𝕄))
      ⊢ bigSep Finset.univ fun r => cred (tallyAt (kcell (c, ck 1 r)) () NC) := BI.bigSep_mono fun r _ => hz r
  have hyx : (bigSep Finset.univ fun r => (Pipeline.launchCred (fun d => dueY d r + dueX d r) c : sProp 𝕄))
      ⊢ iprop((bigSep Finset.univ fun r => cred (tallyAt (kcell (c, ck 5 r)) () NC)) ∗ bigSep Finset.univ fun r => cred (tallyAt (kcell (c, ck 3 r)) () NC)) := by
    rw [← bigSep_pair]
    exact BI.bigSep_mono fun r _ => (Entails.of_eq (Pipeline.launchCred_add (fun d => dueY d r) (fun d => dueX d r) c)).trans (BIClass.sep_mono (hy r) (hx r))
  rw [owAll_sum, Pipeline.launchCred_add, Pipeline.launchCred_add, Pipeline.launchCred_add, Pipeline.launchCred_add, Pipeline.launchCred_add,
    Pipeline.launchCred_add, Pipeline.launchCred_sum Finset.univ (fun r d => dueY d r + dueX d r), Pipeline.launchCred_sum Finset.univ (fun r d => dueZ d r)]
  unfold creds
  iintro ⟨⟨⟨⟨⟨⟨Hfy, Hfx⟩, Hyx⟩, Hz⟩, Hb1⟩, Hb2⟩, Hb3⟩
  isplitl [Hb1 Hb2 Hb3]
  · iapply h3
    isplitl [Hb1]; · iapply (hb yn_yn); iexact Hb1
    isplitl [Hb2]; · iapply (hb xn_xn); iexact Hb2
    iapply (hb zp_zp); iexact Hb3
  isplitl [Hz]; · iapply hzs; iexact Hz
  ihave Hyx := hyx $$ Hyx
  icases Hyx with ⟨Hy, Hx⟩
  isplitl [Hx]; · iexact Hx
  isplitl [Hy]; · iexact Hy
  isplitl [Hfx]; · iapply hfx; iexact Hfx
  iapply hfy; iexact Hfy

end Cert.Gather

end
-- ==== Proof.Same.lean ====
/-
# The printed body is the steps in order

Both read the device first; on each of the eight devices what follows is the same sequence of operations.
-/
module

public import proofs.«01_k».proof.Proof.Steps
public import Idealize.ShloMosaic.Lib.Pipeline.Regions

@[expose] public section

noncomputable section

namespace Cert.Gather

open Cert.KernelIdeal Cert.KernelIdeal.Gen
open Idealize.ShloMosaic Idealize.ShloMosaic.TcCoe
open Idealize.SL Idealize.SL.Sem

variable {F : FTy → Type} [FloatOps F]

/-- What a program goes on with when its first operation reads the device and finds `d`. -/
def after (d : Dev nD) : TProg F → TProg F
  | .ret a => .ret a
  | .op e k => match e, k with
    | .deviceId, k => k d
    | _, _ => .ret ⟨⟩

/-- The printed body reads the device first. -/
theorem body_reads (t : Fin cfg0.N) :
    bodyAt0 (F := F) t = .op .deviceId fun d => after d (bodyAt0 (F := F) t) := by
  chain_rfl

/-- On each device the rest is the steps. -/
theorem after_steps (t : Fin cfg0.N) : ∀ d : Dev nD, after d (bodyAt0 (F := F) t) = steps d
  | ⟨0, _⟩ => by chain_rfl
  | ⟨1, _⟩ => by chain_rfl
  | ⟨2, _⟩ => by chain_rfl
  | ⟨3, _⟩ => by chain_rfl
  | ⟨4, _⟩ => by chain_rfl
  | ⟨5, _⟩ => by chain_rfl
  | ⟨6, _⟩ => by chain_rfl
  | ⟨7, _⟩ => by chain_rfl

/-- The printed body is the steps in order. -/
theorem body_steps (t : Fin cfg0.N) : bodyAt0 (F := F) t = .op .deviceId fun d => steps d :=
  (body_reads t).trans (congrArg (Prog.op TpuEff.deviceId) (funext fun d => after_steps t d))

end Cert.Gather

end
-- ==== Proof.Launch.lean ====
/-
# The launch

The kernel's one step, as the launch theorem takes it, and the run of the whole program: it ends, with the argument
unchanged, the result computed and every semaphore at zero.
-/
module

public import proofs.«01_k».proof.Proof.Deal
public import proofs.«01_k».proof.Proof.Same
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : Mem F) (ρ : Dev nD → PrngReg)

/-! ## The kernel's one step -/

/-- What device `c` holds when the kernel begins, apart from what it owes, -/
def Φ₀ (c : Dev nD) : sProp 𝕄 :=
  iprop((levAts L lv ∗ G' m c ∗ creds c ∗ ((c.tc : Thread nD τ).loc main_arg0 ↦{fullShare} m ((c.tc : Thread nD τ).loc main_arg0))
    ∗ ((c.tc : Thread nD τ).loc main_v1 ↦{fullShare} m ((c.tc : Thread nD τ).loc main_v1))) ∗ bufs c)
/-- and when it has ended. -/
def Φ₁ (c : Dev nD) : sProp 𝕄 :=
  iprop(zeros c ∗ ownZeros c ∗ bufs c
    ∗ ((c.tc : Thread nD τ).loc main_arg0 ↦{fullShare.left} m ((c.tc : Thread nD τ).loc main_arg0))
    ∗ ((c.tc : Thread nD τ).loc main_v1 ↦{fullShare} result m (zOf c)))

/-- The launch's data: what the body starts from and what it ends in. -/
def dats (_ : Fin 1) (c : Dev nD) : Dat τ (Elt F) Unit ℕ UU ℕ cfg0 c where
  A w := w.elim0
  after w := w.elim0
  Φ t := match t with | ⟨0, _⟩ => Φ₀ m c | ⟨_ + 1, _⟩ => Φ₁ m c
  q _ := fullShare
  owed t := match t with | ⟨0, _⟩ => owAll c | ⟨_ + 1, _⟩ => 0

/-- What a device has before the body is what the body begins with. -/
theorem before_begun (c : Dev nD) : iprop(Φ₀ m c ∗ ow c (owAll c)) ⊢ iprop(∃ K, begun m K c) := by
  unfold Φ₀ G' begun ctx
  iintro ⟨⟨⟨Hlev, ⟨%K, HR, Hat, Hb, Ht, Hz⟩, Hc, Hx, Ho⟩, Hbuf⟩, HO⟩
  iexists K
  isplitl [HR Hlev]
  · isplitl [HR] <;> iassumption
  isplitl [Hat]; · iexact Hat
  isplitl [Hb]; · iexact Hb
  isplitl [Ht]; · iexact Ht
  isplitl [Hc]; · iexact Hc
  isplitl [Hz]; · iexact Hz
  isplitl [Hbuf]; · iexact Hbuf
  isplitl [Hx]; · iexact Hx
  isplitl [Ho] <;> iassumption

/-- The program the launch runs is the printed body. -/
theorem body_is (t : Fin cfg0.N) :
    defs₀ (F := F) .tc cfg0.body (cfg0.bodyArgs t (cfg0.slots t)) = (.op .deviceId fun d => steps d : TProg F) :=
  Eq.trans (b := bodyAt0 (F := F) t) (by chain_rfl) (body_steps t)

/-- Reading the device's number gives the number. -/
theorem device_step (c : Dev nD) (k : Dev nD → TProg F) (Q : PUnit → sProp 𝕄) : WP c (.op .deviceId k) Q = WP c (k c) Q := by
  unfold WP
  exact wp_deviceId _ _ _ _

/-- The kernel takes what a device holds at first to what it holds at last. -/
theorem whole (c : Dev nD) (Q : PUnit → sProp 𝕄) :
    iprop(Φ₀ m c ∗ ow c (owAll c)) ⊢ iprop((iprop(Φ₁ m c ∗ ow c 0) -∗ Q ⟨⟩) -∗ WP c (.op .deviceId fun d => steps d) Q) := by
  rw [device_step c (fun d => steps d) Q]
  iintro H Hk
  ihave H := (before_begun m c) $$ H
  icases H with ⟨%K, H⟩
  iapply (sound m K c Q) $$ [H]
  · iexact H
  iintro H
  iapply Hk
  unfold ended Φ₁
  icases H with ⟨H1, H2, H3, H4, H5, HO⟩
  isplitr [HO]
  · isplitl [H1]; · iexact H1
    isplitl [H2]; · iexact H2
    isplitl [H3]; · iexact H3
    isplitl [H4] <;> iassumption
  iexact HO

/-- A body that reads the device and goes on with the steps takes the start to the end. -/
theorem step_of (c : Dev nD) (p : TProg F) (hp : p = .op .deviceId fun d => steps d) (Ψ Ψ' : Fin 0 → sProp 𝕄) :
    iprop((dats m 0 c).Φ t0_0.castSucc ∗ (dats m 0 c).owesAt () t0_0.castSucc ∗ bigSep Finset.univ Ψ)
      ⊢ WP c p fun _ => iprop((dats m 0 c).Φ t0_0.succ ∗ (dats m 0 c).owesAt () t0_0.succ ∗ bigSep Finset.univ Ψ') := by
  have hw (Ψ : Fin 0 → sProp 𝕄) : bigSep Finset.univ Ψ = iprop(emp) := BI.bigSep_empty
  rw [hp, hw, hw]
  unfold Dat.owesAt Pipeline.owesWithin
  rw [show (dats m 0 c).Φ t0_0.castSucc = Φ₀ m c from rfl, show (dats m 0 c).Φ t0_0.succ = Φ₁ m c from rfl,
    show (dats m 0 c).owed t0_0.castSucc = owAll c from rfl, show (dats m 0 c).owed t0_0.succ = 0 from rfl]
  iintro ⟨HΦ, ⟨%W, -, HO⟩, -⟩
  iapply (whole m c) $$ [HΦ HO]
  · isplitl [HΦ]; · iexact HΦ
    unfold ow; iexists W; iexact HO
  iintro ⟨HΦ, HO⟩
  unfold ow
  icases HO with ⟨%W', HO⟩
  isplitl [HΦ]; · iexact HΦ
  isplitl [HO]
  · iexists W'
    isplitr; · ipureintro; exact fun _ _ => Or.inl trivial
    iexact HO
  iempintro

/-- The body meets what the launch asks of it. -/
theorem body_obligation (c : Dev nD) : BodyObligation (dats m 0 c) (defs₀ (F := F)) 𝒱₀ () Set.univ := fun t => by
  obtain rfl : t = t0_0 := fin_N0 t
  refine step_of m c ?_ ?_ ?_ ?_
  exact body_is t0_0

/-! ## The launch -/

/-- The first state of the rounds and of the copies' counters. -/
def u₀ : UU :=
  (initOf (Pipeline.cells cfgs cellOf_inj) (Pipeline.launchToks cfgs cellOf_inj), (initOf allCells allToks, 1))

/-- The first state is the launch's part and the schedule's part. -/
theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- What a device brings to the kernel, -/
def brings (c : Dev nD) : sProp 𝕄 :=
  iprop(levAts L lv ∗ G' m c ∗ creds c ∗ ((c.tc : Thread nD τ).loc main_arg0 ↦{fullShare} m ((c.tc : Thread nD τ).loc main_arg0))
    ∗ ((c.tc : Thread nD τ).loc main_v1 ↦{fullShare} m ((c.tc : Thread nD τ).loc main_v1)))
/-- and what it takes away. -/
def leaves (c : Dev nD) : sProp 𝕄 :=
  iprop(unscopedSems0 c ∗ ((c.tc : Thread nD τ).loc main_arg0 ↦{fullShare.left} m ((c.tc : Thread nD τ).loc main_arg0))
    ∗ ((c.tc : Thread nD τ).loc main_v1 ↦{fullShare} result m (zOf c)))

/-- What the launch deals a device is what it brings to the body. -/
theorem start_intro (c : Dev nD) :
    iprop(Pipeline.unscopedRestP Pipeline.Prefetch.none cfg0.spec c (fun b => m ((c.tc : Thread nD τ).loc b)) ∗ levAts L lv
        ∗ Pipeline.launchCred owAll c ∗ prngReg c (ρ c) ∗ G' m c)
      ⊢ |={Set.univ}=> iprop(brings m c ∗ emp) := by
  rw [Pipeline.unscopedRestP_none, unscopedRest0_eq]
  unfold brings
  iintro ⟨⟨Hx, Ho⟩, Hlev, Hcr, -, HG⟩
  ihave Hc := (launch_creds (F := F) c) $$ Hcr
  imodintro
  isplitl
  · isplitl [Hlev]; · iexact Hlev
    isplitl [HG]; · iexact HG
    isplitl [Hc]; · iexact Hc
    isplitl [Hx] <;> iassumption
  iempintro

/-- What a device brings, with its scratch buffers, is what the body starts from. -/
theorem first_intro (c : Dev nD) :
    iprop(brings m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ brings bufs
  iintro ⟨Hs, -, Hr⟩
  isplitl [Hs]; · iexact Hs
  iexact Hr

/-- What the body ends in is what the device leaves, its semaphores at zero, and its scratch buffers. -/
theorem last_exit (c : Dev nD) :
    (dats m 0 c).Φ (Fin.last cfg0.N) ⊢ iprop(leaves m c ∗ own0 c ∗ Pipeline.scopedRest cfg0.spec c) := by
  rw [show (dats m 0 c).Φ (Fin.last cfg0.N) = Φ₁ m c from rfl, scopedRest0_eq, own0_eq]
  unfold Φ₁ leaves bufs
  rw [zeros_eq, unscoped_eq]
  iintro ⟨⟨Hb, Hk⟩, Hz, Hr, Hx, Ho⟩
  isplitl [Hb Hx Ho]
  · isplitl [Hb]; · iexact Hb
    isplitl [Hx] <;> iassumption
  isplitl [Hz Hk]
  · isplitl [Hz] <;> iassumption
  iexact Hr

/-- The launch's own waits are below everything owed. -/
theorem waits (c : Dev nD) : (levAts L lv : sProp 𝕄) ⊢ Pipeline.cellsWaits cfgs (dats m) () 0 c :=
  Pipeline.cellsWaits_intro cfgs (dats m) () 0 c fun w => w.elim0

/-- What device `c` finds in its memory at the end: its argument as it was, the result, its semaphores at zero. -/
def Found (c : Dev nD) (s : MemSt nD τ sig (Elt F)) : Prop :=
  s.mem ((c.tc : Thread nD τ).loc main_arg0) = m ((c.tc : Thread nD τ).loc main_arg0)
    ∧ s.mem ((c.tc : Thread nD τ).loc main_v1) = result m (zOf c)
    ∧ ∀ sm : SemLoc sig, sm.isScoped .tc = false → s.sem ((c.tc : Thread nD τ), sm) = 0

/-- From what the device ends with, its memory is read off. -/
theorem found (c : Dev nD) (s : Phys nD τ sig (Elt F)) :
    iprop(leaves m c ∗ iprop(emp) ∗ SI s) ⊢ |={Set.univ}=> iprop(⌜Found m c s.mem⌝ ∗ SI s) := by
  unfold leaves
  iintro ⟨⟨Hu, Hx, Ho⟩, -, HSI⟩
  imod (Pipeline.unscopedSems0_read (X := unscopedSems0 c) (c := c) fupd_intro s) $$ [Hu HSI] with ⟨%hu, HSI⟩
  · isplitl [Hu] <;> iassumption
  ihave H := (pointsTo_read_all {()} (fun _ => (c.tc : Thread nD τ).loc main_arg0)
    (fun _ => m ((c.tc : Thread nD τ).loc main_arg0)) s fullShare.left) $$ [Hx HSI]
  · isplitl [Hx]
    · rw [BI.bigSep_singleton]; iexact Hx
    iexact HSI
  icases H with ⟨%hx, HSI⟩
  ihave H := (pointsTo_read_all {()} (fun _ => (c.tc : Thread nD τ).loc main_v1) (fun _ => result m (zOf c)) s) $$ [Ho HSI]
  · isplitl [Ho]
    · rw [BI.bigSep_singleton]; iexact Ho
    iexact HSI
  icases H with ⟨%ho, HSI⟩
  imodintro
  isplitr
  · ipureintro; exact ⟨hx () (Finset.mem_singleton_self _), ho () (Finset.mem_singleton_self _), hu⟩
  iexact HSI

set_option maxRecDepth 20000 in
/-- For any float values and from any memory whose counters are zero, every weakly fair execution of the kernel on the
    eight devices ends; at the end every device's argument is as it was, its result is `result m (zOf c)`, and every
    semaphore is at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_v1) = result m (zOf c)) ∧ r.2.sem = fun _ => 0) :=
  by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?_)
    (hbody := ?_) (hne := block_pos0) (harr := arr_whole0) (hstage := stage_whole0) (hshare := ?_)
    (hdistinct := winFacts0.arr_inj)
    (O₀ := owAll) (howed₀ := fun _ => rfl) (howedN := fun _ => rfl)
    (L := L) (lv := lv) (hL := L_of_ne) (hwaits := ?_)
    (G := G m) (G' := G' m) (u₀ := u₀)
    (hu₀ := ?_)
    (hglob := ?_)
    (hA := fun _ w => w.elim0) (hpf := fun _ k => k.elim0)
    (X := brings m) (Y := leaves m) (Z := fun _ => iprop(emp))
    (hX := ?_) (hin := ?_) (hout := ?_)
    (QY := Found m) (hY := ?_)
    (hQ := fun _ h hs => ⟨fun c => ⟨(h c).2.2.1, (h c).2.2.2.1⟩, sem_eq_zero hs fun c => (h c).2.2.2.2⟩)
  · exact fun _ => rfl
  · exact fun c => (body_obligation m c).loose
  · exact fun _ w => w.elim0
  · exact waits m
  · unfold u₀
    iintro Hu
    ihave H := (ownU_split _ _) $$ Hu
    icases H with ⟨HP, HX⟩
    imod (fund_cells m) $$ HX with HG
    imodintro
    isplitl [HP] <;> iassumption
  · exact glob m
  · exact start_intro m ρ
  · exact first_intro m
  · exact last_exit m
  · exact found m

end Cert.Gather

end
-- ==== Proof.Value.lean ====
/-
# The result is the sum

Over exact values, the chunks the devices sum are put together to the block of the reference's sum each device ends
with: an element of the result is the input's element of the device's own part plus the same element of its partner's,
which is, in one order or the other, the sum over the two parts of the whole array.
-/
module

public import proofs.«01_k».proof.Defs
public import proofs.«01_k».proof.Proof.Places
public import proofs.«01_k».proof.Proof.Gen.ReferenceIdeal
public import Idealize.ShloMosaic.Lib.IdealHost
public import Idealize.ShloMosaic.Lib.Layout
public import Idealize.ShloMosaic.Lib.Pointwise.Reduce

@[expose] public section

noncomputable section

namespace Cert.Gather

open Cert.KernelIdeal Cert.KernelIdeal.Gen
open Idealize.ShloMosaic Idealize.ShloMosaic.TcCoe

/-- The whole input array: both parts. -/
abbrev Whole : Type := Cert.ReferenceIdeal.S2x16384x2048.Idx → Elt Ideal .f32

/-- What the reference computes of the whole input. -/
def total (X : Whole) : Cert.ReferenceIdeal.S16384x2048.Idx → Elt Ideal .bf16 :=
  truncf .bf16 (Host.reduceAdd X (constant (F := Ideal) Cert.ReferenceIdeal.S_ .f32 0x00000000#32)
    Cert.ReferenceIdeal.Gen.reducesTo_S2x16384x2048_S16384x2048_d0 Cert.ReferenceIdeal.Gen.h_S_)
    Cert.ReferenceIdeal.Gen.bitsLt_bf16_f32

/-- The reference's sum at an index adds the two parts' elements. -/
theorem total_apply (X : Whole) (i : Fin 16384) (j : Fin 2048) :
    total X (ix2 i j) = ((X (ix3 (0 : Fin 2) i j) : EReal) + (X (ix3 (1 : Fin 2) i j) : EReal) : EReal) := by
  have h : total X (ix2 i j) = Ideal.hostReduceAdd
      Cert.ReferenceIdeal.Gen.reducesTo_S2x16384x2048_S16384x2048_d0 X (Ideal.ofBits .f32 0x00000000#32) (ix2 i j) := rfl
  rw [h, Ideal.hostReduceAdd_r3_a0, Ideal.ofBits_zero_f32, zero_add, Fin.sum_univ_two]
  rfl

/-- In terms of either part: an element of part `z` plus that of the other. -/
theorem total_pair (X : Whole) (z : Fin 2) (i : Fin 16384) (j : Fin 2048) :
    ((X (ix3 z i j) : EReal) + (X (ix3 (1 - z) i j) : EReal) : EReal) = total X (ix2 i j) := by
  rw [total_apply]
  match z with
  | 0 => rfl
  | 1 => exact add_comm _ _

/-! ## The kernel's chunks -/

/-- Every device holds its part of the whole input. -/
def Holds (m : Mem Ideal) (X : Whole) : Prop :=
  ∀ c : Dev nD, m ((c.tc : Thread nD τ).loc main_arg0)
    = Layout.blockN ⟨3, ![1, 16384, 2048]⟩ ⟨3, ![2, 16384, 2048]⟩ (Layout.meshBlock [2, 2, 2] ![[2], [], []] c) X

/-- The part of the input a device holds is named by its coordinate on the summed axis. -/
theorem part_of (c : Dev nD) : (Layout.meshBlock [2, 2, 2] ![[2], [], []] c (by decide) 0).val = (zOf c).val := by
  revert c; decide

/-- The block of the result a device ends with is named by the same coordinate. -/
theorem cols_of (c : Dev nD) : (Layout.meshBlock [2, 2, 2] ![[], [2]] c (by decide) 1).val = (zOf c).val := by
  revert c; decide

/-- The partner's part is the other one. -/
theorem zOf_zp (c : Dev nD) : zOf (zp c) = 1 - zOf c := by revert c; decide

/-- The row of the whole array that row `y` of chunk `r` of quarter `q` is. -/
def rowAt (q : Fin 4) (r : Fin 16) (y : Fin 256) : Fin 16384 := ⟨4096 * q.val + 256 * r.val + y.val, by omega⟩
/-- The column of the whole array that column `y` of half `z` is. -/
def colAt (z : Fin 2) (y : Fin 1024) : Fin 2048 := ⟨1024 * z.val + y.val, by omega⟩

variable {m : Mem Ideal} {X : Whole}

/-- An element of an input chunk is the element of the whole array there. -/
theorem xin_apply (hX : Holds m X) (d : Dev nD) (z : Fin 2) (q : Fin 4) (r : Fin 16) (y : S256x1024.Idx) :
    xin m d z q r y = X (ix3 (zOf d) (rowAt q r (y 0)) (colAt z (y 1))) := by
  have h0 : xin m d z q r y = m ((d.tc : Thread nD τ).loc main_arg0) ((xR z q r).emb (Fin.cons ⟨0, Nat.one_pos⟩ y)) :=
    (congrFun (Memref.read_squeeze_slice (Memref.whole main_arg0) (xR z q r) (fun _ => rfl)
      squeezes_S1x256x1024_S256x1024 shapeCasts_S1x256x1024_S256x1024 (m ((d.tc : Thread nD τ).loc main_arg0))) y).trans
      (shapeCast_dropUnit_apply ![256, 1024] _ _ y)
  rw [h0, hX d, Layout.blockN_apply]
  refine congrArg X (funext fun a => Fin.ext ?_)
  rw [Layout.TilesN.idx_val]
  match a with
  | ⟨0, _⟩ =>
    show (Layout.meshBlock [2, 2, 2] ![[2], [], []] d (by decide) 0).val * 1 + (0 + 1 * 0) = (zOf d).val
    rw [part_of]; omega
  | ⟨1, _⟩ =>
    show 0 * 16384 + (4096 * q.val + 256 * r.val + 1 * (y 0).val) = 4096 * q.val + 256 * r.val + (y 0).val
    omega
  | ⟨2, _⟩ =>
    show 0 * 2048 + (1024 * z.val + 1 * (y 1).val) = 1024 * z.val + (y 1).val
    omega

/-- An element of a summed chunk is the element of the reference's sum there. -/
theorem summed_apply (hX : Holds m X) (d : Dev nD) (r : Fin 16) (y : S256x1024.Idx) :
    summed m d r y = total X (ix2 (rowAt (qOf d) r (y 0)) (colAt (zOf d) (y 1))) := by
  have h : summed m d r y = ((xin m d (zOf d) (qOf d) r y : EReal) + (xin m (zp d) (zOf d) (qOf d) r y : EReal) : EReal) := by
    have : xin m (zp d) (zOf (zp (zp d))) (qOf (zp d)) r = xin m (zp d) (zOf d) (qOf d) r := by
      rw [zp_zp, qOf_zp]
    rw [← this]; rfl
  rw [h, xin_apply hX, xin_apply hX, zOf_zp]
  exact total_pair X _ _ _

/-- The result of a device is its block of the reference's sum. -/
theorem result_eq (hX : Holds m X) (c : Dev nD) :
    result m (zOf c) = Layout.blockN ⟨2, ![16384, 1024]⟩ ⟨2, ![16384, 2048]⟩ (Layout.meshBlock [2, 2, 2] ![[], [2]] c)
      (total X) := by
  funext i
  show summed m (devAt (zOf c) _) _ _ = _
  rw [summed_apply hX, Layout.blockN_apply]
  refine congrArg (total X) (funext fun a => Fin.ext ?_)
  rw [Layout.TilesN.idx_val, zOf_devAt, qOf_devAt]
  match a with
  | ⟨0, _⟩ =>
    show 4096 * ((i 0).val / 4096) + 256 * ((i 0).val % 4096 / 256) + (i 0).val % 256 = 0 * 16384 + (i 0).val
    omega
  | ⟨1, _⟩ =>
    show 1024 * (zOf c).val + (i 1).val = (Layout.meshBlock [2, 2, 2] ![[], [2]] c (by decide) 1).val * 1024 + (i 1).val
    rw [cols_of]; omega

end Cert.Gather

end
-- ==== Proof.lean ====
/-
# The certificate

The kernel's run (`Cert.Gather.run_main`, stated once for any float values) gives both of its frames and, over exact
values, its result; the reference's run gives the reference's frame and its result. That the two results agree is
`Cert.Gather.result_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its argument as it was, and every counter ends at zero. -/
theorem frame_kernel : Cert.quiescent_Kernel := fun m g _ =>
  (θ_run Cert.KernelIdeal.defs _ _).mono (fun _ h => ⟨fun c => (h.1 c).1, h.2⟩) (Cert.Gather.run_main (F := Bits) m g)

/-- The same over exact values. -/
theorem frame_ideal : Cert.quiescent_KernelIdeal := fun m g _ =>
  (θ_run Cert.KernelIdeal.defs _ _).mono (fun _ h => ⟨fun c => (h.1 c).1, h.2⟩) (Cert.Gather.run_main (F := Ideal) m g)

/-- The reference runs, leaves its argument as it was, and every counter ends at zero: it has none. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Over exact values, every device's result is its block of the reference's. -/
theorem agree : Cert.algebraic_KernelIdeal_ReferenceIdeal := fun m g m' g' _ hX =>
  ⟨Cert.Gather.total (m' (((0 : Dev Cert.ReferenceIdeal.nD).tc :
      Thread Cert.ReferenceIdeal.nD Cert.ReferenceIdeal.τ).loc Cert.ReferenceIdeal.main_arg0)),
    (θ_run Cert.KernelIdeal.defs _ _).mono
      (fun _ h c => ⟨((h.1 c).2).trans (Cert.Gather.result_eq hX c), (h.1 c).1⟩)
      (Cert.Gather.run_main (F := Ideal) m g),
    (θ_run Cert.ReferenceIdeal.defs _ _).mono (fun _ h => h 0) (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts,
    frame_kernel, frame_ideal, frame_reference, trivial, agree⟩

end Cert.Proof

end
